-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x2048x2048 : Shape := ⟨3, ![3, 2048, 2048]⟩
abbrev S2048x4096 : Shape := ⟨2, ![2048, 4096]⟩
abbrev S4096 : Shape := ⟨1, ![4096]⟩
abbrev S_ : Shape := ⟨0, ![]⟩

class Facts : Prop where
  bitsLt_bf16_f32 : FTy.bits .bf16 < FTy.bits .f32
  bcast_S_S3x2048x2048 : S_.BroadcastsInDim S3x2048x2048 (![] : Fin 0 → Fin S3x2048x2048.rank)

variable [Facts]

def fn {F : FTy → Type} [FloatOps F] (main_arg0 : FVec F S3x2048x2048 .bf16) (main_arg1 : FVec F S2048x4096 .fp8e4m3) (main_arg2 : FVec F S4096 .f32) : IVec S3x2048x2048 1 :=
  let main_v0 : FVec F S3x2048x2048 .f32 := (extf .f32 · bitsLt_bf16_f32) main_arg0
  let main_v1 : FVec F S3x2048x2048 .f32 := Host.absf main_v0
  let main_cst : FVec F S_ .f32 := constant S_ .f32 0x7F7F0000#32
  let main_v2 : FVec F S3x2048x2048 .f32 := broadcastInDim S3x2048x2048 ![] bcast_S_S3x2048x2048 main_cst
  let main_v3 : IVec S3x2048x2048 1 := cmpf .ole main_v1 main_v2
  main_v3
-- ==== Kernel.lean ====
abbrev S3x2048x2048 : Shape := ⟨3, ![3, 2048, 2048]⟩
abbrev S2048x4096 : Shape := ⟨2, ![2048, 4096]⟩
abbrev S4096 : Shape := ⟨1, ![4096]⟩
abbrev S6144x2048 : Shape := ⟨2, ![6144, 2048]⟩
abbrev S1x4096 : Shape := ⟨2, ![1, 4096]⟩
abbrev S6144x4096 : Shape := ⟨2, ![6144, 4096]⟩
abbrev S3x1x2048 : Shape := ⟨3, ![3, 1, 2048]⟩
abbrev S512x2048 : Shape := ⟨2, ![512, 2048]⟩
abbrev S512x4096 : Shape := ⟨2, ![512, 4096]⟩
abbrev S1x1x512 : Shape := ⟨3, ![1, 1, 512]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S1x128 : Shape := ⟨2, ![1, 128]⟩
abbrev S1x1x128 : Shape := ⟨3, ![1, 1, 128]⟩
abbrev S2048x512 : Shape := ⟨2, ![2048, 512]⟩
abbrev S512x512 : Shape := ⟨2, ![512, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S3x2048x2048, .bf16⟩
  | .hbm, ⟨1, _⟩ => ⟨S2048x4096, .fp8e4m3⟩
  | .hbm, ⟨2, _⟩ => ⟨S4096, .f32⟩
  | .hbm, ⟨3, _⟩ => ⟨S6144x2048, .bf16⟩
  | .hbm, ⟨4, _⟩ => ⟨S1x4096, .f32⟩
  | .hbm, ⟨5, _⟩ => ⟨S6144x4096, .bf16⟩
  | .hbm, ⟨6, _⟩ => ⟨S6144x2048, .fp8e4m3⟩
  | .hbm, ⟨7, _⟩ => ⟨S3x1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x4096, .fp8e4m3⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | .local _ .vmem, ⟨6, _⟩ => ⟨S512x2048, .fp8e4m3⟩
  | .local _ .vmem, ⟨7, _⟩ => ⟨S512x2048, .fp8e4m3⟩
  | .local _ .vmem, ⟨8, _⟩ => ⟨S1x1x512, .f32⟩
  | .local _ .vmem, ⟨9, _⟩ => ⟨S1x1x512, .f32⟩
  | _, _ => ⟨S3x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x2048x2048 : Shape := ⟨3, ![3, 2048, 2048]⟩
abbrev S2048x4096 : Shape := ⟨2, ![2048, 4096]⟩
abbrev S4096 : Shape := ⟨1, ![4096]⟩
abbrev S6144x2048 : Shape := ⟨2, ![6144, 2048]⟩
abbrev S1x4096 : Shape := ⟨2, ![1, 4096]⟩
abbrev S6144x4096 : Shape := ⟨2, ![6144, 4096]⟩
abbrev S3x1x2048 : Shape := ⟨3, ![3, 1, 2048]⟩
abbrev S6144 : Shape := ⟨1, ![6144]⟩
abbrev S6144x1 : Shape := ⟨2, ![6144, 1]⟩
abbrev S1x254 : Shape := ⟨2, ![1, 254]⟩
abbrev S6144x254 : Shape := ⟨2, ![6144, 254]⟩

abbrev nBuf : Space → Nat
  | .hbm => 8
  | .vmem => 6
  | .smem => 0
  | _ => 0

abbrev bufTy : (tb : Table) → Fin (tcTables nBuf tb) → BufTy
  | .hbm, ⟨0, _⟩ => ⟨S3x2048x2048, .bf16⟩
  | .hbm, ⟨1, _⟩ => ⟨S2048x4096, .fp8e4m3⟩
  | .hbm, ⟨2, _⟩ => ⟨S4096, .f32⟩
  | .hbm, ⟨3, _⟩ => ⟨S6144x2048, .bf16⟩
  | .hbm, ⟨4, _⟩ => ⟨S1x4096, .f32⟩
  | .hbm, ⟨5, _⟩ => ⟨S6144x4096, .bf16⟩
  | .hbm, ⟨6, _⟩ => ⟨S6144x2048, .fp8e4m3⟩
  | .hbm, ⟨7, _⟩ => ⟨S3x1x2048, .f32⟩
  | .local _ .vmem, ⟨0, _⟩ => ⟨S6144x2048, .bf16⟩
  | .local _ .vmem, ⟨1, _⟩ => ⟨S2048x4096, .fp8e4m3⟩
  | .local _ .vmem, ⟨2, _⟩ => ⟨S1x4096, .f32⟩
  | .local _ .vmem, ⟨3, _⟩ => ⟨S6144x4096, .bf16⟩
  | .local _ .vmem, ⟨4, _⟩ => ⟨S6144x2048, .fp8e4m3⟩
  | .local _ .vmem, ⟨5, _⟩ => ⟨S3x1x2048, .f32⟩
  | _, _ => ⟨S3x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  The power of two a token is scaled by, and its two spellings.

  `expo v` is the exponent itself: the `e` with `2^(e-1) ≤ v < 2^e`, and `0` where `v` is below the least normal
  float32.
  The kernel finds the exponent field of `v` by a binary search over the words `n <<< 23` and builds `2^e` and
  `2^-e` as such words; the reference counts the powers of two that are at most `v`. Both are stated here on one
  number, free of any array.
-/
module

public import Idealize.ShloMosaic.PureOps
public import Idealize.ShloMosaic.PureOps.Ideal
public import Idealize.ShloMosaic.PureOps.Ideal.Laws

@[expose] public section

noncomputable section

namespace Cert.Scale

open Idealize.ShloMosaic

/-- How many of the powers of two from `2^-126` to `2^127` are at most `v`. -/
def count (v : ℝ) : ℕ := (Finset.univ.filter fun k : Fin 254 => (2 : ℝ) ^ ((k.val : ℤ) - 126) ≤ v).card

/-- The exponent of the scale of a token whose largest magnitude, divided by 448, is `v`. -/
def expo (v : ℝ) : ℤ := if v < (2 : ℝ) ^ (-126 : ℤ) then 0 else (count v : ℤ) - 126

/-- Between two neighbouring powers of two the count is the exponent field of the lower one. -/
theorem count_eq (v : ℝ) (n : ℕ) (hn : n ≤ 254) (hlo : (2 : ℝ) ^ ((n : ℤ) - 127) ≤ v) (hhi : v < (2 : ℝ) ^ ((n : ℤ) - 126)) :
    count v = n := by
  unfold count
  have h : (Finset.univ.filter fun k : Fin 254 => (2 : ℝ) ^ ((k.val : ℤ) - 126) ≤ v)
      = Finset.univ.filter fun k : Fin 254 => k.val < n := by
    refine Finset.filter_congr fun k _ => ⟨fun hk => ?_, fun hk => le_trans ?_ hlo⟩
    · have := (zpow_lt_zpow_iff_right₀ (by norm_num : (1 : ℝ) < 2)).mp (hk.trans_lt hhi)
      omega
    · exact zpow_le_zpow_right₀ (by norm_num) (by omega)
  rw [h, Fin.card_filter_val_lt, min_eq_right hn]

/-- The exponent between two neighbouring powers of two. -/
theorem expo_eq (v : ℝ) (n : ℕ) (h1 : 1 ≤ n) (hn : n ≤ 254) (hlo : (2 : ℝ) ^ ((n : ℤ) - 127) ≤ v)
    (hhi : v < (2 : ℝ) ^ ((n : ℤ) - 126)) : expo v = (n : ℤ) - 126 := by
  unfold expo
  rw [count_eq v n hn hlo hhi, if_neg]
  exact not_lt.mpr (le_trans (zpow_le_zpow_right₀ (by norm_num) (by omega)) hlo)

/-! ## Words that hold a power of two -/

/-- The fields of the word `n <<< 23`: no sign, exponent field `n`, no significand. -/
theorem word_fields : ∀ n : Fin 256,
    ((BitVec.ofNat 32 n.val <<< (23 : ℕ)).extractLsb' 31 1 == 1#1) = false
    ∧ ((BitVec.ofNat 32 n.val <<< (23 : ℕ)).extractLsb' 23 8).toNat = n.val
    ∧ ((BitVec.ofNat 32 n.val <<< (23 : ℕ)).extractLsb' 0 23).toNat = 0 := by decide +kernel

/-- The shift of an exponent field into place, as the vector unit does it. -/
theorem shl_eq (x : BitVec 32) : IntOp.shli .vector x 23#32 = x <<< (23 : ℕ) := by
  unfold IntOp.shli
  rw [if_pos (by decide)]
  rfl

/-- What a word of no sign and no significand denotes. -/
theorem ieee_of_fields (b : BitVec 32) (n : ℕ) (hs : (b.extractLsb' 31 1 == 1#1) = false)
    (he : (b.extractLsb' 23 8).toNat = n) (hf : (b.extractLsb' 0 23).toNat = 0) (h1 : 1 ≤ n) :
    Ideal.ofBits .f32 b = if n = 255 then (⊤ : EReal) else (((2 : ℝ) ^ ((n : ℤ) - 127) : ℝ) : EReal) := by
  have hr : Ideal.ofBits .f32 b = Ideal.ieee 8 23 b := rfl
  rw [hr]
  unfold Ideal.ieee
  simp only [hs, he, hf, Nat.reduceAdd, Nat.reducePow, Nat.reduceSub, Int.reducePow, Int.reduceSub, Bool.false_eq_true, if_false, if_true]
  by_cases h : n = 255
  · rw [if_pos h, if_pos h]
  · rw [if_neg h, if_neg h, if_neg (by omega)]
    congr 1
    simp only [one_mul, Nat.cast_add, Nat.cast_ofNat, Nat.cast_zero, add_zero]
    rw [show (8388608 : ℝ) = (2 : ℝ) ^ (23 : ℤ) by norm_num, ← zpow_add₀ (by norm_num)]
    congr 1
    ring

/-- The word with exponent field `n` denotes `2^(n-127)`, for every normal exponent field. -/
theorem word_eq (n : ℕ) (h1 : 1 ≤ n) (h2 : n ≤ 254) :
    Ideal.ofBits .f32 (IntOp.shli .vector (BitVec.ofNat 32 n) 23#32) = (((2 : ℝ) ^ ((n : ℤ) - 127) : ℝ) : EReal) := by
  obtain ⟨hs, he, hf⟩ := word_fields ⟨n, by omega⟩
  rw [shl_eq, ieee_of_fields _ n hs he hf h1, if_neg (by omega)]

/-- The word with every exponent bit set denotes `+∞`. -/
theorem word_top : Ideal.ofBits .f32 (IntOp.shli .vector (BitVec.ofNat 32 255) 23#32) = ⊤ := by
  obtain ⟨hs, he, hf⟩ := word_fields ⟨255, by omega⟩
  rw [shl_eq, ieee_of_fields _ 255 hs he hf (by norm_num), if_pos rfl]

/-! ## The kernel's search -/

/-- One step of the search: add `b` to the exponent field found so far where the word so built is at most `v`. -/
def bump (v : EReal) (b e : BitVec 32) : BitVec 32 :=
  Scalar.select (Ideal.cmp .oge v (Ideal.ofBits .f32 (IntOp.shli .vector (IntOp.addi e b) 23#32))) (IntOp.addi e b) e

/-- What the search knows after a step: `v` lies in the `w` binades from exponent field `lo` on (below which the
    field `0` takes every smaller number). -/
def Inv (v : ℝ) (lo w : ℕ) : Prop :=
  (lo = 0 ∨ (2 : ℝ) ^ ((lo : ℤ) - 127) ≤ v) ∧ v < (2 : ℝ) ^ ((lo : ℤ) + w - 127)

/-- A comparison that decides which of two words is taken. -/
theorem select_oge (x y : EReal) (a b : BitVec 32) :
    Scalar.select (Ideal.cmp .oge x y) a b = if y ≤ x then a else b := by
  unfold Scalar.select Ideal.cmp
  by_cases h : y ≤ x <;> simp [h]

/-- A step halves the binades that are left. -/
theorem bump_inv (v : ℝ) (lo w : ℕ) (hw : 1 ≤ w) (hlo : lo + w ≤ 255) (hv : v < (2 : ℝ) ^ (120 : ℤ))
    (h : Inv v lo (2 * w)) :
    ∃ lo' : ℕ, (lo' = lo ∨ lo' = lo + w) ∧ bump v (BitVec.ofNat 32 w) (BitVec.ofNat 32 lo) = BitVec.ofNat 32 lo'
      ∧ Inv v lo' w := by
  have hadd : IntOp.addi (BitVec.ofNat 32 lo) (BitVec.ofNat 32 w) = BitVec.ofNat 32 (lo + w) := by
    unfold IntOp.addi; rw [BitVec.ofNat_add]
  unfold bump
  rw [hadd, select_oge]
  by_cases hc : Ideal.ofBits .f32 (IntOp.shli .vector (BitVec.ofNat 32 (lo + w)) 23#32) ≤ (v : EReal)
  · refine ⟨lo + w, .inr rfl, if_pos hc, .inr ?_, ?_⟩
    · by_cases h255 : lo + w = 255
      · rw [h255, word_top] at hc
        exact absurd hc (by simp)
      · rw [word_eq _ (by omega) (by omega)] at hc
        exact EReal.coe_le_coe_iff.mp hc
    · have := h.2
      refine this.trans_le (le_of_eq ?_)
      congr 1; push_cast; ring
  · refine ⟨lo, .inl rfl, if_neg hc, h.1, ?_⟩
    by_cases h255 : lo + w = 255
    · exact hv.trans_le (zpow_le_zpow_right₀ (by norm_num) (by omega))
    · rw [word_eq _ (by omega) (by omega), EReal.coe_le_coe_iff, not_le] at hc
      refine hc.trans_le (le_of_eq ?_)
      congr 1

/-- The whole search, from no bit to eight. -/
def field (v : EReal) : BitVec 32 :=
  bump v 1#32 (bump v 2#32 (bump v 4#32 (bump v 8#32 (bump v 16#32 (bump v 32#32 (bump v 64#32 (bump v 128#32 0#32)))))))

/-- The search finds the exponent field of `v`. -/
theorem field_inv (v : ℝ) (hv : v < (2 : ℝ) ^ (120 : ℤ)) :
    ∃ n : ℕ, n ≤ 246 ∧ field v = BitVec.ofNat 32 n ∧ Inv v n 1 := by
  have h0 : Inv v 0 (2 * 128) := ⟨.inl rfl, hv.trans_le (zpow_le_zpow_right₀ (by norm_num) (by norm_num))⟩
  obtain ⟨n1, c1, e1, i1⟩ := bump_inv v 0 128 (by norm_num) (by norm_num) hv h0
  obtain ⟨n2, c2, e2, i2⟩ := bump_inv v n1 64 (by norm_num) (by omega) hv i1
  obtain ⟨n3, c3, e3, i3⟩ := bump_inv v n2 32 (by norm_num) (by omega) hv i2
  obtain ⟨n4, c4, e4, i4⟩ := bump_inv v n3 16 (by norm_num) (by omega) hv i3
  obtain ⟨n5, c5, e5, i5⟩ := bump_inv v n4 8 (by norm_num) (by omega) hv i4
  obtain ⟨n6, c6, e6, i6⟩ := bump_inv v n5 4 (by norm_num) (by omega) hv i5
  obtain ⟨n7, c7, e7, i7⟩ := bump_inv v n6 2 (by norm_num) (by omega) hv i6
  obtain ⟨n8, c8, e8, i8⟩ := bump_inv v n7 1 (by norm_num) (by omega) hv i7
  refine ⟨n8, ?_, ?_, i8⟩
  · rcases i8.1 with h | h
    · omega
    · have := (zpow_lt_zpow_iff_right₀ (by norm_num : (1 : ℝ) < 2)).mp (h.trans_lt hv)
      omega
  · unfold field
    rw [← e8, ← e7, ← e6, ← e5, ← e4, ← e3, ← e2, ← e1]

/-- The exponent as the kernel's integer word: the field less 126, and 0 where the field is 0. -/
def eword (v : EReal) : BitVec 32 :=
  Scalar.select (IntOp.cmpi .eq (field v) 0#32) 0#32 (IntOp.subi (field v) 126#32)

/-- The scale as the kernel builds it. -/
def scaleWord (v : EReal) : EReal := Ideal.ofBits .f32 (IntOp.shli .vector (IntOp.addi 127#32 (eword v)) 23#32)

/-- The reciprocal of the scale as the kernel builds it. -/
def invWord (v : EReal) : EReal := Ideal.ofBits .f32 (IntOp.shli .vector (IntOp.subi 127#32 (eword v)) 23#32)

/-- The words the kernel shifts into place, at each exponent field it can find. -/
theorem words : ∀ n : Fin 247, 1 ≤ n.val →
    IntOp.cmpi .eq (BitVec.ofNat 32 n.val) 0#32 = 0#1
    ∧ IntOp.addi 127#32 (IntOp.subi (BitVec.ofNat 32 n.val) 126#32) = BitVec.ofNat 32 (n.val + 1)
    ∧ IntOp.subi 127#32 (IntOp.subi (BitVec.ofNat 32 n.val) 126#32) = BitVec.ofNat 32 (253 - n.val) := by
  decide +kernel

/-- The kernel's scale and its reciprocal are `2^e` and `2^-e`. -/
theorem words_eq (v : ℝ) (hv : v < (2 : ℝ) ^ (120 : ℤ)) :
    scaleWord v = (((2 : ℝ) ^ expo v : ℝ) : EReal) ∧ invWord v = (((2 : ℝ) ^ (-expo v) : ℝ) : EReal) := by
  obtain ⟨n, hn, hf, hi⟩ := field_inv v hv
  rcases Nat.eq_zero_or_pos n with h0 | h1
  · subst h0
    have he : expo v = 0 := by
      unfold expo
      rw [if_pos]
      simpa using hi.2
    have hw : eword v = 0#32 := by unfold eword; rw [hf]; decide
    have h := word_eq 127 (by norm_num) (by norm_num)
    unfold scaleWord invWord
    rw [hw, he]
    constructor
    · refine Eq.trans (congrArg _ (by decide)) (h.trans (by norm_num))
    · refine Eq.trans (congrArg _ (by decide)) (h.trans (by norm_num))
  · have hlo : (2 : ℝ) ^ ((n : ℤ) - 127) ≤ v := hi.1.resolve_left (by omega)
    have hhi : v < (2 : ℝ) ^ ((n : ℤ) - 126) := by
      refine hi.2.trans_le (le_of_eq ?_)
      congr 1; push_cast; ring
    obtain ⟨w1, w2, w3⟩ := words ⟨n, by omega⟩ h1
    dsimp only at w1 w2 w3
    have hw : eword v = IntOp.subi (BitVec.ofNat 32 n) 126#32 := by
      unfold eword; rw [hf, w1]; rfl
    unfold scaleWord invWord
    rw [hw, w2, w3, expo_eq v n h1 (by omega) hlo hhi, word_eq _ (by omega) (by omega), word_eq _ (by omega) (by omega)]
    constructor
    · congr 2; push_cast; ring
    · congr 2; rw [Nat.cast_sub (by omega)]; push_cast; ring

/-! ## The reference's count -/

/-- The exact power of two of an integer exponent. -/
theorem exp2_int (k : ℤ) : Ideal.exp2 (((k : ℝ) : ℝ) : EReal) = (((2 : ℝ) ^ k : ℝ) : EReal) := by
  show ((Real.rpow 2 (k : ℝ) : ℝ) : EReal) = _
  congr 1
  exact Real.rpow_intCast 2 k

/-- The sum of the ones the reference writes where a power of two is at most `v` is their count. -/
theorem sum_eq (v : ℝ) (f : Fin 254 → EReal) (hf : ∀ k, f k = (((2 : ℝ) ^ ((k.val : ℤ) - 126) : ℝ) : EReal)) :
    ∑ k : Fin 254, Scalar.select (Ideal.cmp .oge (v : EReal) (f k)) (1 : EReal) 0 = ((count v : ℝ) : EReal) := by
  have h : ∀ k : Fin 254, Scalar.select (Ideal.cmp .oge (v : EReal) (f k)) (1 : EReal) 0
      = (((if (2 : ℝ) ^ ((k.val : ℤ) - 126) ≤ v then (1 : ℝ) else 0 : ℝ)) : EReal) := by
    intro k
    rw [hf]
    unfold Scalar.select Ideal.cmp
    by_cases hk : (2 : ℝ) ^ ((k.val : ℤ) - 126) ≤ v <;> simp [hk]
  have hs : ∀ (S : Finset (Fin 254)) (g : Fin 254 → ℝ), ∑ k ∈ S, ((g k : ℝ) : EReal) = ((∑ k ∈ S, g k : ℝ) : EReal) := by
    intro S g
    induction S using Finset.induction_on with
    | empty => simp
    | insert a S ha ih => rw [Finset.sum_insert ha, Finset.sum_insert ha, EReal.coe_add, ih]
  rw [Finset.sum_congr rfl fun k _ => h k, hs, Finset.sum_boole]
  rfl

end Cert.Scale

end
-- ==== Proof.RowMax.lean ====
/-
  The largest magnitude of a row, and its two spellings: over all the columns at once, and over 128 lanes after the
  16 slices of 128 columns have been folded into one.
-/
module

public import proofs.«01_k».proof.Proof.Scale

@[expose] public section

noncomputable section

namespace Cert.Scale

open Idealize.ShloMosaic

/-- The largest of the magnitudes of a row of 2048 numbers. -/
def rowMax (x : Fin 2048 → EReal) : EReal := Finset.univ.sup fun k => max (x k) (-x k)

/-- `-∞`, the start of a maximum. -/
theorem neg_inf : Ideal.ofBits .f32 0xFF800000#32 = ⊥ := by
  show Ideal.ieee 8 23 (0xFF800000#32 : BitVec 32) = ⊥
  unfold Ideal.ieee
  have h1 : ((0xFF800000#32 : BitVec 32).extractLsb' 31 1 == 1#1) = true := by decide
  have h2 : ((0xFF800000#32 : BitVec 32).extractLsb' 23 8).toNat = 255 := by decide
  have h3 : ((0xFF800000#32 : BitVec 32).extractLsb' 0 23).toNat = 0 := by decide
  simp only [h1, h2, h3, Nat.reduceAdd, Nat.reducePow, Nat.reduceSub, if_true]

/-- A maximum folded from `-∞` is the supremum. -/
theorem fold_max {n : ℕ} (g : Fin n → EReal) : Finset.univ.fold max (⊥ : EReal) g = Finset.univ.sup g := rfl

/-- The maximum of the 16 slices of 128 columns at lane `l`, folded from the first slice to the last. -/
def nest (G : ℕ → EReal) (l : ℕ) : EReal :=
  max (max (max (max (max (max (max (max (max (max (max (max (max (max (max (G l) (G (128 + l))) (G (256 + l))) (G (384 + l))) (G (512 + l))) (G (640 + l))) (G (768 + l))) (G (896 + l))) (G (1024 + l))) (G (1152 + l))) (G (1280 + l))) (G (1408 + l))) (G (1536 + l))) (G (1664 + l))) (G (1792 + l))) (G (1920 + l))

/-- That maximum is at most a bound exactly where every slice is. -/
theorem nest_le (G : ℕ → EReal) (l : ℕ) (b : EReal) : nest G l ≤ b ↔ ∀ q < 16, G (128 * q + l) ≤ b := by
  unfold nest
  simp only [max_le_iff]
  constructor
  · intro h q hq
    interval_cases q <;> simp only [Nat.mul_zero, Nat.zero_add, Nat.reduceMul] <;> tauto
  · intro h
    have h0 := h 0 (by norm_num)
    rw [Nat.mul_zero, Nat.zero_add] at h0
    refine ⟨⟨⟨⟨⟨⟨⟨⟨⟨⟨⟨⟨⟨⟨⟨h0, ?_⟩, ?_⟩, ?_⟩, ?_⟩, ?_⟩, ?_⟩, ?_⟩, ?_⟩, ?_⟩, ?_⟩, ?_⟩, ?_⟩, ?_⟩, ?_⟩, ?_⟩
    exacts [h 1 (by norm_num), h 2 (by norm_num), h 3 (by norm_num), h 4 (by norm_num), h 5 (by norm_num),
      h 6 (by norm_num), h 7 (by norm_num), h 8 (by norm_num), h 9 (by norm_num), h 10 (by norm_num),
      h 11 (by norm_num), h 12 (by norm_num), h 13 (by norm_num), h 14 (by norm_num), h 15 (by norm_num)]

/-- Sixteen slices of 128 columns make the whole row: a maximum over the lanes of the maxima of the slices is the
    maximum over the columns. -/
theorem sup_slices (G : ℕ → EReal) :
    (Finset.univ.sup fun l : Fin 128 => nest G l.val) = Finset.univ.sup fun k : Fin 2048 => G k.val := by
  apply le_antisymm
  · refine Finset.sup_le fun l _ => (nest_le G _ _).mpr fun q hq => ?_
    exact Finset.le_sup (f := fun k : Fin 2048 => G k.val) (Finset.mem_univ (⟨128 * q + l.val, by omega⟩ : Fin 2048))
  · refine Finset.sup_le fun k _ => ?_
    refine le_trans ?_ (Finset.le_sup (f := fun l : Fin 128 => nest G l.val) (Finset.mem_univ (⟨k.val % 128, by omega⟩ : Fin 128)))
    refine le_trans (le_of_eq ?_) ((nest_le G (k.val % 128) _).mp le_rfl (k.val / 128) (by omega))
    congr 1
    omega

end Cert.Scale

end
-- ==== Proof.KernelBlock.lean ====
/-
  What one block of 512 tokens computes, element by element: the column of scaled maxima, the scale, the codes and the
  pieces of the output.
-/
module

public import proofs.«01_k».proof.Proof.Gen.KernelIdeal.Skeleton
public import proofs.«01_k».proof.Proof.RowMax
public import Idealize.ShloMosaic.Lib.Pointwise

@[expose] public section

set_option maxRecDepth 16384

noncomputable section

namespace Cert.KernelIdeal.Gen

open Idealize.ShloMosaic Cert.Scale

/-- The kernel's column: the largest magnitude of each row times the float32 nearest 1/448. -/
theorem pay4_apply (v0 : Vec Ideal S512x2048 .bf16) (j : S512x1.Idx) :
    k0_pay4 (F := Ideal) v0 j = rowMax (fun k => v0 (ix2 (j 0) k)) * Ideal.ofBits .f32 0x3B124925#32 := by
  unfold k0_pay4 k0_pay3
  idx_vars j
  pointwise
  congr 1
  rw [neg_inf, fold_max]
  have h := sup_slices fun n => if hn : n < 2048 then FloatOps.absf (F := Ideal) (φ := .bf16) (v0 (ix2 j0 ⟨n, hn⟩)) else ⊥
  refine Eq.trans (Finset.sup_congr rfl fun x _ => ?_) (h.trans (Finset.sup_congr rfl fun k _ => ?_))
  · have hx : x.val < 128 := x.isLt
    simp (disch := omega) only [nest, dif_pos]
  · exact dif_pos k.isLt

/-- One step of the search on a column. -/
def stepV (v : FVec Ideal S512x1 .f32) (b : BitVec 32) (e : IVec S512x1 32) : IVec S512x1 32 :=
  select (cmpf .oge v (bitcastToFloat .f32 (shli (addi e (broadcast S512x1 b)) (broadcast S512x1 23#32))))
    (addi e (broadcast S512x1 b)) e

/-- The step on a column is the step on each of its numbers. -/
theorem stepV_apply (v : FVec Ideal S512x1 .f32) (b : BitVec 32) (e : IVec S512x1 32) (j : S512x1.Idx) :
    stepV v b e j = bump (v j) b (e j) := rfl

/-- The first six steps of the search. -/
theorem pay5_eq (v : FVec Ideal S512x1 .f32) : k0_pay5 v 0#32 =
    stepV v 4#32 (stepV v 8#32 (stepV v 16#32 (stepV v 32#32 (stepV v 64#32 (stepV v 128#32 (broadcast S512x1 0#32)))))) := by
  unfold k0_pay5
  dsimp only
  repeat rw [← stepV]

/-- The last two steps, and the exponent word made of the field they leave. -/
theorem pay8_of (v : FVec Ideal S512x1 .f32) (e : IVec S512x1 32) (j : S512x1.Idx) :
    k0_pay8 v e (addi e (broadcast S512x1 2#32)) (broadcast S512x1 23#32) j
      = Scalar.select (IntOp.cmpi .eq (stepV v 1#32 (stepV v 2#32 e) j) 0#32) 0#32
          (IntOp.subi (stepV v 1#32 (stepV v 2#32 e) j) 126#32) := rfl

/-- The kernel's exponent word. -/
theorem pay8_eq (v : FVec Ideal S512x1 .f32) :
    k0_pay8 v (k0_pay5 v 0#32) (k0_pay6 v 0#32) k0_pay7 = fun j => eword (v j) := by
  funext j
  refine (pay8_of v (k0_pay5 v 0#32) j).trans ?_
  rw [pay5_eq]
  simp only [stepV_apply]
  rfl

/-- The kernel's scale column. -/
theorem pay9_eq (v : FVec Ideal S512x1 .f32) :
    k0_pay9 v (k0_pay5 v 0#32) (k0_pay6 v 0#32) k0_pay7 = fun j => scaleWord (v j) := by
  unfold k0_pay9
  rw [pay8_eq]
  rfl

/-- The kernel's codes: each number times the reciprocal of its row's scale, clipped to ±448. -/
theorem pay10_apply (x : FVec Ideal S512x2048 .bf16) (v : FVec Ideal S512x1 .f32) (j : S512x2048.Idx) :
    k0_pay10 x v (k0_pay5 v 0#32) (k0_pay6 v 0#32) k0_pay7 j
      = min (Ideal.ofBits .f32 0x43E00000#32) (max (Ideal.ofBits .f32 0xC3E00000#32)
          (x j * invWord (v (ix2 (j 0) 0)))) := by
  unfold k0_pay10
  rw [pay8_eq]
  idx_vars j
  pointwise
  rfl

/-- The four pieces of the scale: the scale column of 128 tokens laid along the lanes. -/
theorem pay13_apply (v : FVec Ideal S512x1 .f32) (j : S1x1x128.Idx) :
    k0_pay13 (k0_pay12 v (k0_pay5 v 0#32) (k0_pay6 v 0#32) k0_pay7) j
      = scaleWord (v (ix2 ⟨(j 2).val, by have : (j 2).val < 128 := (j 2).isLt; omega⟩ 0)) := by
  unfold k0_pay13 k0_pay12 k0_pay11
  rw [pay9_eq]
  idx_vars j
  pointwise
theorem pay14_apply (v : FVec Ideal S512x1 .f32) (j : S1x1x128.Idx) :
    k0_pay14 (k0_pay11 v (k0_pay5 v 0#32) (k0_pay6 v 0#32) k0_pay7) j
      = scaleWord (v (ix2 ⟨128 + (j 2).val, by have : (j 2).val < 128 := (j 2).isLt; omega⟩ 0)) := by
  unfold k0_pay14 k0_pay11
  rw [pay9_eq]
  idx_vars j
  pointwise
theorem pay15_apply (v : FVec Ideal S512x1 .f32) (j : S1x1x128.Idx) :
    k0_pay15 (k0_pay11 v (k0_pay5 v 0#32) (k0_pay6 v 0#32) k0_pay7) j
      = scaleWord (v (ix2 ⟨256 + (j 2).val, by have : (j 2).val < 128 := (j 2).isLt; omega⟩ 0)) := by
  unfold k0_pay15 k0_pay11
  rw [pay9_eq]
  idx_vars j
  pointwise
theorem pay16_apply (v : FVec Ideal S512x1 .f32) (j : S1x1x128.Idx) :
    k0_pay16 (k0_pay11 v (k0_pay5 v 0#32) (k0_pay6 v 0#32) k0_pay7) j
      = scaleWord (v (ix2 ⟨384 + (j 2).val, by have : (j 2).val < 128 := (j 2).isLt; omega⟩ 0)) := by
  unfold k0_pay16 k0_pay11
  rw [pay9_eq]
  idx_vars j
  pointwise

/-- A piece of the output: the product of the codes with 512 columns of the weights, times the token's scale, times the
    column's. -/
theorem pay17_apply (v : FVec Ideal S512x1 .f32) (c : Vec Ideal S512x2048 .fp8e4m3) (w : Vec Ideal S2048x512 .fp8e4m3)
    (s : Vec Ideal S1x512 .f32) (j : S512x512.Idx) :
    k0_pay17 v c w s j = ((∑ k : Fin 2048, c (ix2 (j 0) k) * w (ix2 k (j 1)) : EReal) * v (ix2 (j 0) 0)) * s (ix2 0 (j 1)) := by
  unfold k0_pay17
  idx_vars j
  pointwise

/-- The eight pieces of the output are one computation of their own slices of the weights. -/
theorem pay19_eq (v : FVec Ideal S512x1 .f32) (c : Vec Ideal S512x2048 .fp8e4m3) (w : Vec Ideal S2048x512 .fp8e4m3)
    (s : Vec Ideal S1x512 .f32) : k0_pay19 v (k0_pay18 c) w s = k0_pay17 v c w s := rfl
theorem pay20_eq (v : FVec Ideal S512x1 .f32) (c : Vec Ideal S512x2048 .fp8e4m3) (w : Vec Ideal S2048x512 .fp8e4m3)
    (s : Vec Ideal S1x512 .f32) : k0_pay20 v c w s = k0_pay17 v c w s := rfl
theorem pay21_eq (v : FVec Ideal S512x1 .f32) (c : Vec Ideal S512x2048 .fp8e4m3) (w : Vec Ideal S2048x512 .fp8e4m3)
    (s : Vec Ideal S1x512 .f32) : k0_pay21 v c w s = k0_pay17 v c w s := rfl
theorem pay22_eq (v : FVec Ideal S512x1 .f32) (c : Vec Ideal S512x2048 .fp8e4m3) (w : Vec Ideal S2048x512 .fp8e4m3)
    (s : Vec Ideal S1x512 .f32) : k0_pay22 v c w s = k0_pay17 v c w s := rfl
theorem pay23_eq (v : FVec Ideal S512x1 .f32) (c : Vec Ideal S512x2048 .fp8e4m3) (w : Vec Ideal S2048x512 .fp8e4m3)
    (s : Vec Ideal S1x512 .f32) : k0_pay23 v c w s = k0_pay17 v c w s := rfl
theorem pay1_eq (v : FVec Ideal S512x1 .f32) (c : Vec Ideal S512x2048 .fp8e4m3) (w : Vec Ideal S2048x512 .fp8e4m3)
    (s : Vec Ideal S1x512 .f32) : k0_pay1 (k0_pay24 v c w) s = k0_pay17 v c w s := rfl
theorem pay2_eq (v : FVec Ideal S512x1 .f32) (c : Vec Ideal S512x2048 .fp8e4m3) (w : Vec Ideal S2048x512 .fp8e4m3)
    (s : Vec Ideal S1x512 .f32) : k0_pay2 v c w s = k0_pay17 v c w s := rfl

end Cert.KernelIdeal.Gen

end
-- ==== Proof.Spec.lean ====
/-
  The linear layer of one token as numbers: its codes, its scale and its outputs, in the kernel's spelling (the powers of
  two as words) and in the reference's (an exponent counted, then `2^e`).
-/
module

public import proofs.«01_k».proof.Proof.RowMax

@[expose] public section

noncomputable section

namespace Cert.Scale

open Idealize.ShloMosaic

/-- The largest magnitude of a token times the float32 nearest 1/448. -/
def vOf (x : Fin 2048 → EReal) : EReal := rowMax x * Ideal.ofBits .f32 0x3B124925#32

/-- A number clipped to ±448. -/
def clip (t : EReal) : EReal := min (Ideal.ofBits .f32 0x43E00000#32) (max (Ideal.ofBits .f32 0xC3E00000#32) t)

/-- The kernel's code of column `k` of a token. -/
def kCode (x : Fin 2048 → EReal) (k : Fin 2048) : EReal := clip (x k * invWord (vOf x))

/-- The kernel's scale of a token. -/
def kScale (x : Fin 2048 → EReal) : EReal := scaleWord (vOf x)

/-- One output: the product of the codes with a column of weights, times the token's scale, times the column's. -/
def outOf (code : Fin 2048 → EReal) (sc : EReal) (w : Fin 2048 → EReal) (s : EReal) : EReal :=
  (∑ k : Fin 2048, code k * w k) * sc * s

/-! ## The reference's spelling -/

/-- The reference's exponent of a token: how many powers of two from 2^-126 on lie at or below the scaled maximum, less 126;
    zero below the least normal number and on a token of zeros. -/
def rExp (x : Fin 2048 → EReal) : EReal :=
  Scalar.select (Ideal.cmp .oeq (rowMax x) (Ideal.ofBits .f32 0x00000000#32)) (Ideal.ofBits .f32 0x00000000#32)
    (Scalar.select (Ideal.cmp .olt (vOf x) (Ideal.ofBits .f32 0x00800000#32)) (Ideal.ofBits .f32 0x00000000#32)
      ((∑ k : Fin 254, Scalar.select (Ideal.cmp .oge (vOf x)
          (Ideal.exp2 ((((BitVec.ofNat 32 k.val).toInt : ℝ) : EReal) - Ideal.ofBits .f32 0x42FC0000#32)))
        (Ideal.ofBits .f32 0x3F800000#32) (Ideal.ofBits .f32 0x00000000#32)) - Ideal.ofBits .f32 0x42FC0000#32))

/-- The reference's scale of a token. -/
def rScale (x : Fin 2048 → EReal) : EReal := Ideal.exp2 (rExp x)

/-- The reference's code of column `k` of a token. -/
def rCode (x : Fin 2048 → EReal) (k : Fin 2048) : EReal :=
  clip (x k * Ideal.exp2 (Ideal.ofBits .f32 0x00000000#32 - rExp x))

end Cert.Scale

end
-- ==== Proof.KernelOut.lean ====
/-
  What one block of 512 tokens leaves in its three output buffers, element by element, as the numbers of Spec.lean.
-/
module

public import proofs.«01_k».proof.Proof.Gen.KernelIdeal.Value
public import proofs.«01_k».proof.Proof.KernelBlock
public import proofs.«01_k».proof.Proof.Spec
public import Idealize.ShloMosaic.Lib.Pipeline.ValueKit.Acc
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic Idealize.SL.Sem Cert.Scale

theorem hz2 : (![0, 0] : Fin 2 → Nat) = fun _ => 0 := funext fun a => by fin_cases a <;> rfl

/-- A load of a whole block. -/
theorem ld_x0 (inb : ∀ a, (![0, 0] : Fin 2 → ℕ) a + S512x2048.size a ≤ S512x2048.size a) (x0 : Vec Ideal S512x2048 .bf16) :
    View.ld (Val := Elt Ideal) (e' := .bf16) x0 (Rect.unit (s := S512x2048) ![0, 0] (no_index S512x2048.size) inb) = x0 :=
  View.ld_unit_zero hz2 inb x0

/-- The codes, read back from the buffer they were stored in. -/
theorem rc_codes (v : View sig .tc .vmem S512x2048 .fp8e4m3)
    (inb : ∀ a, (![0, 0] : Fin 2 → ℕ) a + S512x2048.size a ≤ S512x2048.size a) (w : Vec Ideal S512x2048 .fp8e4m3) :
    v.readCov (Val := Elt Ideal) [(⟨Rect.unit ![0, 0] (no_index S512x2048.size) inb, w⟩ : View.Piece (Elt Ideal) S512x2048 .fp8e4m3)]
      (Rect.unit ![0, 0] (no_index S512x2048.size) inb).toLoadRect = w :=
  View.readCov_unit_zero v hz2 inb w

/-- The kernel's first payload is the block itself. -/
theorem pay3_eq (x0 : Vec Ideal S512x2048 .bf16) : k0_pay3 (F := Ideal) x0 = x0 := shapeCast_self _ _

/-- The column of scaled maxima at a row. -/
theorem pay4_row (x0 : Vec Ideal S512x2048 .bf16) (j : S512x1.Idx) :
    k0_pay4 (F := Ideal) x0 j = vOf fun k => x0 (ix2 (j 0) k) := pay4_apply x0 j

/-- A block's codes. -/
theorem out4_apply (c : Dev nD) (i : grid0.Coords) (arg1 : Memref sig .tc .vmem S512x2048 .bf16) (harg1 : arg1.IsWhole)
    (arg2 : Memref sig .tc .vmem S2048x4096 .fp8e4m3) (harg2 : arg2.IsWhole) (arg3 : Memref sig .tc .vmem S1x4096 .f32) (harg3 : arg3.IsWhole)
    (arg4 : Memref sig .tc .vmem S512x4096 .bf16) (harg4 : arg4.IsWhole) (arg5 : Memref sig .tc .vmem S512x2048 .fp8e4m3) (harg5 : arg5.IsWhole)
    (arg6 : Memref sig .tc .vmem S1x1x512 .f32) (harg6 : arg6.IsWhole)
    (x0 : Vec Ideal S512x2048 .bf16) (x1 : Vec Ideal S2048x4096 .fp8e4m3) (x2 : Vec Ideal S1x4096 .f32) (j : S512x2048.Idx) :
    out0_A_4 (F := Ideal) c i arg1 harg1 arg2 harg2 arg3 harg3 arg4 harg4 arg5 harg5 arg6 harg6 x0 x1 x2 j
      = kCode (fun k => x0 (ix2 (j 0) k)) (j 1) := by
  unfold out0_A_4
  rw [View.read_writes_eq_canon _ _ _ (cover0_A_4 c i arg1 harg1 arg2 harg2 arg3 harg3 arg4 harg4 arg5 harg5 arg6 harg6 x0 x1 x2)]
  unfold kernelRun0_A
  dsimp only
  sl_unfold_words
  simp only [View.readAt_eq_ld, harg1.read_unread, harg2.read_unread, harg3.read_unread]
  rw [View.canon_unit_zero hz2, View.ld_unit_zero hz2]
  refine (pay10_apply _ _ j).trans ?_
  rw [pay4_row, pay3_eq]
  idx_vars j
  rfl

/-- A block's scales, along the lanes. -/
theorem out5_apply (c : Dev nD) (i : grid0.Coords) (arg1 : Memref sig .tc .vmem S512x2048 .bf16) (harg1 : arg1.IsWhole)
    (arg2 : Memref sig .tc .vmem S2048x4096 .fp8e4m3) (harg2 : arg2.IsWhole) (arg3 : Memref sig .tc .vmem S1x4096 .f32) (harg3 : arg3.IsWhole)
    (arg4 : Memref sig .tc .vmem S512x4096 .bf16) (harg4 : arg4.IsWhole) (arg5 : Memref sig .tc .vmem S512x2048 .fp8e4m3) (harg5 : arg5.IsWhole)
    (arg6 : Memref sig .tc .vmem S1x1x512 .f32) (harg6 : arg6.IsWhole)
    (x0 : Vec Ideal S512x2048 .bf16) (x1 : Vec Ideal S2048x4096 .fp8e4m3) (x2 : Vec Ideal S1x4096 .f32) (j : S1x1x512.Idx) :
    out0_A_5 (F := Ideal) c i arg1 harg1 arg2 harg2 arg3 harg3 arg4 harg4 arg5 harg5 arg6 harg6 x0 x1 x2 j
      = kScale (fun k => x0 (ix2 (j 2) k)) := by
  have hc := cover0_A_5 (F := Ideal) c i arg1 harg1 arg2 harg2 arg3 harg3 arg4 harg4 arg5 harg5 arg6 harg6 x0 x1 x2 j
  unfold out0_A_5
  rw [View.read_writes_eq_canon _ _ _ (cover0_A_5 c i arg1 harg1 arg2 harg2 arg3 harg3 arg4 harg4 arg5 harg5 arg6 harg6 x0 x1 x2)]
  revert hc
  unfold kernelRun0_A
  dsimp only
  sl_unfold_words
  simp only [View.readAt_eq_ld, harg1.read_unread, harg2.read_unread, harg3.read_unread, ld_x0]
  intro hc
  refine View.canon_eq_of_allAt _ j _ hc ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · intro x hx
    refine (pay16_apply _ x).trans ?_
    have e2 : (j 2).val = 384 + (x 2).val := hx 2
    rw [pay4_row]
    have hr : (⟨384 + (x 2).val, by have : (x 2).val < 128 := (x 2).isLt; omega⟩ : Fin 512) = j 2 := Fin.ext e2.symm
    exact congrArg (fun r : Fin 512 => kScale fun k => x0 (ix2 r k)) hr
  · intro x hx
    refine (pay15_apply _ x).trans ?_
    have e2 : (j 2).val = 256 + (x 2).val := hx 2
    rw [pay4_row]
    have hr : (⟨256 + (x 2).val, by have : (x 2).val < 128 := (x 2).isLt; omega⟩ : Fin 512) = j 2 := Fin.ext e2.symm
    exact congrArg (fun r : Fin 512 => kScale fun k => x0 (ix2 r k)) hr
  · intro x hx
    refine (pay14_apply _ x).trans ?_
    have e2 : (j 2).val = 128 + (x 2).val := hx 2
    rw [pay4_row]
    have hr : (⟨128 + (x 2).val, by have : (x 2).val < 128 := (x 2).isLt; omega⟩ : Fin 512) = j 2 := Fin.ext e2.symm
    exact congrArg (fun r : Fin 512 => kScale fun k => x0 (ix2 r k)) hr
  · intro x hx
    refine (pay13_apply _ x).trans ?_
    have e2 : (j 2).val = 0 + (x 2).val := hx 2
    rw [pay4_row]
    have hr : (⟨(x 2).val, by have : (x 2).val < 128 := (x 2).isLt; omega⟩ : Fin 512) = j 2 := Fin.ext (e2.trans (Nat.zero_add _)).symm
    exact congrArg (fun r : Fin 512 => kScale fun k => x0 (ix2 r k)) hr

/-- One piece of a block's outputs: 512 columns, from column `o` on. -/
theorem piece_apply (x0 : Vec Ideal S512x2048 .bf16) (x1 : Vec Ideal S2048x4096 .fp8e4m3) (x2 : Vec Ideal S1x4096 .f32)
    (o : ℕ) (ho : o + 512 ≤ 4096) (inb1 : ∀ a, (![0, o] : Fin 2 → ℕ) a + (![2048, 512] : Fin 2 → ℕ) a ≤ S2048x4096.size a)
    (inb2 : ∀ a, (![0, o] : Fin 2 → ℕ) a + (![1, 512] : Fin 2 → ℕ) a ≤ S1x4096.size a) (j : S512x4096.Idx) :
    View.TileAt (Val := Elt Ideal) (e := .bf16) j ![0, o] ![512, 512]
      (k0_pay17 (F := Ideal) (k0_pay9 (k0_pay4 x0) (k0_pay5 (k0_pay4 x0) 0#32) (k0_pay6 (k0_pay4 x0) 0#32) k0_pay7)
        (k0_pay10 (k0_pay3 x0) (k0_pay4 x0) (k0_pay5 (k0_pay4 x0) 0#32) (k0_pay6 (k0_pay4 x0) 0#32) k0_pay7)
        (View.ld (Val := Elt Ideal) (e' := .fp8e4m3) x1 (Rect.unit (s := S2048x4096) ![0, o] ![2048, 512] inb1)) (View.ld (Val := Elt Ideal) (e' := .f32) x2 (Rect.unit (s := S1x4096) ![0, o] ![1, 512] inb2)))
      (outOf (kCode fun k => x0 (ix2 (j 0) k)) (kScale fun k => x0 (ix2 (j 0) k)) (fun k => x1 (ix2 k (j 1))) (x2 (ix2 0 (j 1)))) := by
  intro (x : S512x512.Idx) hx
  have e0 : (j 0).val = (x 0).val := (hx 0).trans (Nat.zero_add _)
  have e1 : (j 1).val = o + (x 1).val := hx 1
  refine (pay17_apply _ _ _ _ x).trans ?_
  rw [pay9_eq]
  have hr : (x 0 : Fin 512) = j 0 := Fin.ext e0.symm
  unfold outOf kScale
  refine congrArg₂ _ (congrArg₂ _ (Finset.sum_congr rfl fun k _ => congrArg₂ _ ?_ ?_) ?_) ?_
  · refine (pay10_apply _ _ _).trans ?_
    rw [pay4_row, pay3_eq]
    show clip (x0 (ix2 (x 0) k) * invWord (vOf fun k => x0 (ix2 (x 0) k))) = _
    rw [hr]
    rfl
  · refine View.ld_unit_apply_of _ _ _ _ _ _ fun a => ?_
    fin_cases a
    · exact (Nat.zero_add _).symm
    · exact e1
  · refine (congrArg scaleWord (pay4_row x0 (ix2 (x 0) 0))).trans ?_
    show scaleWord (vOf fun k => x0 (ix2 (x 0) k)) = _
    rw [hr]
  · refine View.ld_unit_apply_of _ _ _ _ _ _ fun a => ?_
    fin_cases a
    · rfl
    · exact e1

/-- A block's outputs. -/
theorem out3_apply (c : Dev nD) (i : grid0.Coords) (arg1 : Memref sig .tc .vmem S512x2048 .bf16) (harg1 : arg1.IsWhole)
    (arg2 : Memref sig .tc .vmem S2048x4096 .fp8e4m3) (harg2 : arg2.IsWhole) (arg3 : Memref sig .tc .vmem S1x4096 .f32) (harg3 : arg3.IsWhole)
    (arg4 : Memref sig .tc .vmem S512x4096 .bf16) (harg4 : arg4.IsWhole) (arg5 : Memref sig .tc .vmem S512x2048 .fp8e4m3) (harg5 : arg5.IsWhole)
    (arg6 : Memref sig .tc .vmem S1x1x512 .f32) (harg6 : arg6.IsWhole)
    (x0 : Vec Ideal S512x2048 .bf16) (x1 : Vec Ideal S2048x4096 .fp8e4m3) (x2 : Vec Ideal S1x4096 .f32) (j : S512x4096.Idx) :
    out0_A_3 (F := Ideal) c i arg1 harg1 arg2 harg2 arg3 harg3 arg4 harg4 arg5 harg5 arg6 harg6 x0 x1 x2 j
      = outOf (kCode fun k => x0 (ix2 (j 0) k)) (kScale fun k => x0 (ix2 (j 0) k)) (fun k => x1 (ix2 k (j 1))) (x2 (ix2 0 (j 1))) := by
  have hc := cover0_A_3 (F := Ideal) c i arg1 harg1 arg2 harg2 arg3 harg3 arg4 harg4 arg5 harg5 arg6 harg6 x0 x1 x2 j
  unfold out0_A_3
  rw [View.read_writes_eq_canon _ _ _ (cover0_A_3 c i arg1 harg1 arg2 harg2 arg3 harg3 arg4 harg4 arg5 harg5 arg6 harg6 x0 x1 x2)]
  revert hc
  unfold kernelRun0_A
  dsimp only
  sl_unfold_words
  simp only [View.readAt_eq_ld, harg1.read_unread, harg2.read_unread, harg3.read_unread]
  simp only [ld_x0]
  simp only [rc_codes]
  simp only [pay19_eq, pay20_eq, pay21_eq, pay22_eq, pay23_eq, pay1_eq, pay2_eq]
  intro hc
  refine View.canon_eq_of_allAt _ j _ hc ?_
  refine View.allAt_cons_unit _ _ _ _ _ (piece_apply _ _ _ 3584 (by norm_num) _ _ j) (View.allAt_cons_unit _ _ _ _ _ (piece_apply _ _ _ 3072 (by norm_num) _ _ j)
    (View.allAt_cons_unit _ _ _ _ _ (piece_apply _ _ _ 2560 (by norm_num) _ _ j) (View.allAt_cons_unit _ _ _ _ _ (piece_apply _ _ _ 2048 (by norm_num) _ _ j)
    (View.allAt_cons_unit _ _ _ _ _ (piece_apply _ _ _ 1536 (by norm_num) _ _ j) (View.allAt_cons_unit _ _ _ _ _ (piece_apply _ _ _ 1024 (by norm_num) _ _ j)
    (View.allAt_cons_unit _ _ _ _ _ (piece_apply _ _ _ 512 (by norm_num) _ _ j) (View.allAt_cons_unit _ _ _ _ _ (piece_apply _ _ _ 0 (by norm_num) _ _ j)
    (View.allAt_nil _ _))))))))

end Cert.KernelIdeal.Gen

end
-- ==== Proof.KernelArray.lean ====
/-
  What the three result arrays hold after the run: twelve blocks of 512 tokens, block after block, cover each of them.
-/
module

public import proofs.«01_k».proof.Proof.KernelOut

@[expose] public section

set_option maxRecDepth 16384

noncomputable section

namespace Cert.KernelIdeal.Gen

open Idealize.ShloMosaic Idealize.ShloMosaic.TcCoe Idealize.ShloMosaic.Tactic Idealize.SL.Sem Cert.Scale
open Idealize.ShloMosaic.Pipeline (Dat)

variable (m : (ℓ : Loc nD τ sig) → Buf (Elt Ideal) ℓ)

/-- The tokens, the weights' codes and the weights' scales as the call finds them. -/
abbrev inX (c : Dev nD) : Vec Ideal S6144x2048 .bf16 := V m c main_v0
abbrev inW (c : Dev nD) : Vec Ideal S2048x4096 .fp8e4m3 := V m c main_arg1
abbrev inS (c : Dev nD) : Vec Ideal S1x4096 .f32 := V m c main_v1

/-- The outputs: row by row of tokens, column by column of weights. -/
abbrev yArr (c : Dev nD) : Vec Ideal S6144x4096 .bf16 := fun i =>
  outOf (kCode fun k => inX m c (ix2 (i 0) k)) (kScale fun k => inX m c (ix2 (i 0) k)) (fun k => inW m c (ix2 k (i 1))) (inS m c (ix2 0 (i 1)))

/-- The codes of every token. -/
abbrev codeArr (c : Dev nD) : Vec Ideal S6144x2048 .fp8e4m3 := fun i => kCode (fun k => inX m c (ix2 (i 0) k)) (i 1)

/-- The token whose scale stands at an index of the (3, 1, 2048) array of scales. -/
abbrev tok (i : S3x1x2048.Idx) : Fin 6144 :=
  ⟨(i 0).val * 2048 + (i 2).val, by have h0 : (i 0).val < 3 := (i 0).isLt; have h2 : (i 2).val < 2048 := (i 2).isLt; omega⟩

/-- The scales of every token. -/
abbrev scaleArr (c : Dev nD) : Vec Ideal S3x1x2048 .f32 := fun i => kScale fun k => inX m c (ix2 (tok i) k)

/-- Where each window's block lies at a point. -/
theorem where_blocks : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0)
    ∧ (win0_5.index t 0 = t.val / 4 ∧ win0_5.index t 1 = 0 ∧ win0_5.index t 2 = t.val % 4) := by
  decide +kernel

/-- No block is cut short. -/
theorem sizes : ∀ t : Fin grid0.N,
    (win0_3.xsize (grid0.coords t) 0 = 512 ∧ win0_3.xsize (grid0.coords t) 1 = 4096)
    ∧ (win0_4.xsize (grid0.coords t) 0 = 512 ∧ win0_4.xsize (grid0.coords t) 1 = 2048)
    ∧ (win0_5.xsize (grid0.coords t) 0 = 1 ∧ win0_5.xsize (grid0.coords t) 1 = 1 ∧ win0_5.xsize (grid0.coords t) 2 = 512) := by
  decide +kernel

theorem point_lt (t : Fin cfg0.N) : t.val < 12 := by have h := t.isLt; have e : cfg0.N = 12 := N_0; omega

/-- Row `r` of point `t`'s block of tokens is row `512 t + r` of the tokens. -/
theorem blk_x (c : Dev nD) (t : Fin cfg0.N) (r : Fin 512) (k : Fin 2048) :
    (iblk m c 0 t : Vec Ideal S512x2048 .bf16) (ix2 r k)
      = inX m c (ix2 ⟨t.val * 512 + r.val, by have := point_lt t; omega⟩ k) := by
  obtain ⟨⟨e0, e1⟩, -⟩ := where_blocks t
  unfold iblk
  rw [View.read_apply]
  refine congrArg (inX m c) (funext fun a => Fin.ext ?_)
  match a with
  | ⟨0, _⟩ => show win0_0.index t 0 * 512 + 1 * r.val = t.val * 512 + r.val; rw [e0]; omega
  | ⟨1, _⟩ => show win0_0.index t 1 * 2048 + 1 * k.val = k.val; rw [e1]; omega

/-- Every point's block of weights is all of them, -/
theorem blk_w (c : Dev nD) (t : Fin cfg0.N) (k : Fin 2048) (j : Fin 4096) :
    (iblk m c 1 t : Vec Ideal S2048x4096 .fp8e4m3) (ix2 k j) = inW m c (ix2 k j) := by
  obtain ⟨-, ⟨e0, e1⟩, -⟩ := where_blocks t
  unfold iblk
  rw [View.read_apply]
  refine congrArg (inW m c) (funext fun a => Fin.ext ?_)
  match a with
  | ⟨0, _⟩ => show win0_1.index t 0 * 2048 + 1 * k.val = k.val; rw [e0]; omega
  | ⟨1, _⟩ => show win0_1.index t 1 * 4096 + 1 * j.val = j.val; rw [e1]; omega

/-- and so are the weights' scales. -/
theorem blk_s (c : Dev nD) (t : Fin cfg0.N) (j : Fin 4096) :
    (iblk m c 2 t : Vec Ideal S1x4096 .f32) (ix2 0 j) = inS m c (ix2 0 j) := by
  obtain ⟨-, -, ⟨e0, e1⟩, -⟩ := where_blocks t
  unfold iblk
  rw [View.read_apply]
  refine congrArg (inS m c) (funext fun a => Fin.ext ?_)
  match a with
  | ⟨0, _⟩ => show win0_2.index t 0 * 1 + 1 * 0 = 0; rw [e0]
  | ⟨1, _⟩ => show win0_2.index t 1 * 4096 + 1 * j.val = j.val; rw [e1]; omega

/-! ## The outputs -/

/-- What a point writes back is its block of the outputs. -/
theorem flushed_y (c : Dev nD) (t : Fin cfg0.N) : (dats m 0 c).flushed 3 t = ((cfg0.win 3).blk t).view.read (Elt Ideal) (yArr m c) := by
  rw [Value.flushed3_A]
  funext (j : S512x4096.Idx)
  rw [View.read_apply]
  refine (out3_apply c _ _ _ _ _ _ _ _ _ _ _ _ _ _ _ _ j).trans ?_
  have e0 : (((cfg0.win 3).blk t).view.emb j : S6144x4096.Idx) 0 = (⟨t.val * 512 + (j 0).val, by have := point_lt t; have : (j 0).val < 512 := (j 0).isLt; omega⟩ : Fin 6144) :=
    Fin.ext (by show win0_3.index t 0 * 512 + 1 * (j 0).val = t.val * 512 + (j 0).val; rw [(where_blocks t).2.2.2.1.1]; omega)
  have e1 : (((cfg0.win 3).blk t).view.emb j : S6144x4096.Idx) 1 = (j 1 : Fin 4096) :=
    Fin.ext (by show win0_3.index t 1 * 4096 + 1 * (j 1).val = (j 1).val; rw [(where_blocks t).2.2.2.1.2]; omega)
  show _ = yArr m c (((cfg0.win 3).blk t).view.emb j)
  unfold yArr
  rw [e0, e1]
  have hx : (fun k => (iblk m c 0 t : Vec Ideal S512x2048 .bf16) (ix2 (j 0) k)) = _ := funext fun k => blk_x m c t (j 0) k
  have hw : (fun k => (iblk m c 1 t : Vec Ideal S2048x4096 .fp8e4m3) (ix2 k (j 1))) = _ := funext fun k => blk_w m c t k (j 1)
  rw [hx, hw, blk_s m c t (j 1)]

/-- An index of the outputs lies in point `t`'s block when its row does. -/
theorem mem_y (t : Fin cfg0.N) (i : S6144x4096.Idx) :
    i ∈ ((cfg0.win 3).blk t).view.set ↔ t.val * 512 ≤ (i 0).val ∧ (i 0).val < t.val * 512 + 512 := by
  show i ∈ ((View.whole main_v2_0).slice (win0_3.rect t)).set ↔ _
  rw [View.set_slice_whole, Rect.mem_set_unit]
  have h1 : (i 1).val < 4096 := (i 1).isLt
  have e0 := (where_blocks t).2.2.2.1.1
  have e1 := (where_blocks t).2.2.2.1.2
  obtain ⟨⟨s0, s1⟩, -⟩ := sizes t
  refine ⟨fun h => ?_, fun h a => ?_⟩
  · have : win0_3.index t 0 * 512 ≤ (i 0).val ∧ (i 0).val < win0_3.index t 0 * 512 + win0_3.xsize (grid0.coords t) 0 := h 0
    rw [e0, s0] at this; exact this
  · match a with
    | ⟨0, _⟩ => show win0_3.index t 0 * 512 ≤ (i 0).val ∧ (i 0).val < win0_3.index t 0 * 512 + win0_3.xsize (grid0.coords t) 0
                rw [e0, s0]; exact h
    | ⟨1, _⟩ => show win0_3.index t 1 * 4096 ≤ (i 1).val ∧ (i 1).val < win0_3.index t 1 * 4096 + win0_3.xsize (grid0.coords t) 1
                rw [e1, s1, Nat.zero_mul, Nat.zero_add]; exact ⟨Nat.zero_le _, h1⟩

/-- The array of outputs after the run. -/
theorem final_y (c : Dev nD) : (dats m 0 c).arrAt 3 cfg0.N = yArr m c :=
  (dats m 0 c).arrAt_eq_of_cover 3 (yArr m c) (fun t _ => flushed_y m c t) fun (i : S6144x4096.Idx) => by
    have h0 : (i 0).val < 6144 := (i 0).isLt
    have e : cfg0.N = 12 := N_0
    refine ⟨⟨(i 0).val / 512, by omega⟩, flush0_3 _, (mem_y _ i).mpr ⟨?_, ?_⟩⟩
    · show (i 0).val / 512 * 512 ≤ (i 0).val; omega
    · show (i 0).val < (i 0).val / 512 * 512 + 512; omega

/-! ## The codes -/

/-- What a point writes back is its block of the codes. -/
theorem flushed_code (c : Dev nD) (t : Fin cfg0.N) : (dats m 0 c).flushed 4 t = ((cfg0.win 4).blk t).view.read (Elt Ideal) (codeArr m c) := by
  rw [Value.flushed4_A]
  funext (j : S512x2048.Idx)
  rw [View.read_apply]
  refine (out4_apply c _ _ _ _ _ _ _ _ _ _ _ _ _ _ _ _ j).trans ?_
  have e0 : (((cfg0.win 4).blk t).view.emb j : S6144x2048.Idx) 0 = (⟨t.val * 512 + (j 0).val, by have := point_lt t; have : (j 0).val < 512 := (j 0).isLt; omega⟩ : Fin 6144) :=
    Fin.ext (by show win0_4.index t 0 * 512 + 1 * (j 0).val = t.val * 512 + (j 0).val; rw [(where_blocks t).2.2.2.2.1.1]; omega)
  have e1 : (((cfg0.win 4).blk t).view.emb j : S6144x2048.Idx) 1 = (j 1 : Fin 2048) :=
    Fin.ext (by show win0_4.index t 1 * 2048 + 1 * (j 1).val = (j 1).val; rw [(where_blocks t).2.2.2.2.1.2]; omega)
  show _ = codeArr m c (((cfg0.win 4).blk t).view.emb j)
  unfold codeArr
  rw [e0, e1]
  have hx : (fun k => (iblk m c 0 t : Vec Ideal S512x2048 .bf16) (ix2 (j 0) k)) = _ := funext fun k => blk_x m c t (j 0) k
  rw [hx]

/-- An index of the codes lies in point `t`'s block when its row does. -/
theorem mem_code (t : Fin cfg0.N) (i : S6144x2048.Idx) :
    i ∈ ((cfg0.win 4).blk t).view.set ↔ t.val * 512 ≤ (i 0).val ∧ (i 0).val < t.val * 512 + 512 := by
  show i ∈ ((View.whole main_v2_1).slice (win0_4.rect t)).set ↔ _
  rw [View.set_slice_whole, Rect.mem_set_unit]
  have h1 : (i 1).val < 2048 := (i 1).isLt
  have e0 := (where_blocks t).2.2.2.2.1.1
  have e1 := (where_blocks t).2.2.2.2.1.2
  obtain ⟨-, ⟨s0, s1⟩, -⟩ := sizes t
  refine ⟨fun h => ?_, fun h a => ?_⟩
  · have : win0_4.index t 0 * 512 ≤ (i 0).val ∧ (i 0).val < win0_4.index t 0 * 512 + win0_4.xsize (grid0.coords t) 0 := h 0
    rw [e0, s0] at this; exact this
  · match a with
    | ⟨0, _⟩ => show win0_4.index t 0 * 512 ≤ (i 0).val ∧ (i 0).val < win0_4.index t 0 * 512 + win0_4.xsize (grid0.coords t) 0
                rw [e0, s0]; exact h
    | ⟨1, _⟩ => show win0_4.index t 1 * 2048 ≤ (i 1).val ∧ (i 1).val < win0_4.index t 1 * 2048 + win0_4.xsize (grid0.coords t) 1
                rw [e1, s1, Nat.zero_mul, Nat.zero_add]; exact ⟨Nat.zero_le _, h1⟩

/-- The array of codes after the run. -/
theorem final_code (c : Dev nD) : (dats m 0 c).arrAt 4 cfg0.N = codeArr m c :=
  (dats m 0 c).arrAt_eq_of_cover 4 (codeArr m c) (fun t _ => flushed_code m c t) fun (i : S6144x2048.Idx) => by
    have h0 : (i 0).val < 6144 := (i 0).isLt
    have e : cfg0.N = 12 := N_0
    refine ⟨⟨(i 0).val / 512, by omega⟩, flush0_4 _, (mem_code _ i).mpr ⟨?_, ?_⟩⟩
    · show (i 0).val / 512 * 512 ≤ (i 0).val; omega
    · show (i 0).val < (i 0).val / 512 * 512 + 512; omega

/-! ## The scales -/

/-- What a point writes back is its block of the scales. -/
theorem flushed_scale (c : Dev nD) (t : Fin cfg0.N) : (dats m 0 c).flushed 5 t = ((cfg0.win 5).blk t).view.read (Elt Ideal) (scaleArr m c) := by
  rw [Value.flushed5_A]
  funext (j : S1x1x512.Idx)
  rw [View.read_apply]
  refine (out5_apply c _ _ _ _ _ _ _ _ _ _ _ _ _ _ _ _ j).trans ?_
  have e : tok (((cfg0.win 5).blk t).view.emb j : S3x1x2048.Idx) = (⟨t.val * 512 + (j 2).val, by have := point_lt t; have : (j 2).val < 512 := (j 2).isLt; omega⟩ : Fin 6144) :=
    Fin.ext (by
      have h0 : (j 0).val < 1 := (j 0).isLt
      show (win0_5.index t 0 * 1 + 1 * (j 0).val) * 2048 + (win0_5.index t 2 * 512 + 1 * (j 2).val) = t.val * 512 + (j 2).val
      rw [(where_blocks t).2.2.2.2.2.1, (where_blocks t).2.2.2.2.2.2.2]; omega)
  show _ = scaleArr m c (((cfg0.win 5).blk t).view.emb j)
  unfold scaleArr
  rw [e]
  have hx : (fun k => (iblk m c 0 t : Vec Ideal S512x2048 .bf16) (ix2 (j 2) k)) = _ := funext fun k => blk_x m c t (j 2) k
  rw [hx]

/-- An index of the scales lies in point `t`'s block when its token does. -/
theorem mem_scale (t : Fin cfg0.N) (i : S3x1x2048.Idx) :
    i ∈ ((cfg0.win 5).blk t).view.set ↔ t.val * 512 ≤ (tok i).val ∧ (tok i).val < t.val * 512 + 512 := by
  show i ∈ ((View.whole main_v2_2).slice (win0_5.rect t)).set ↔ t.val * 512 ≤ (i 0).val * 2048 + (i 2).val ∧ (i 0).val * 2048 + (i 2).val < t.val * 512 + 512
  rw [View.set_slice_whole, Rect.mem_set_unit]
  have h1 : (i 1).val < 1 := (i 1).isLt
  have h2 : (i 2).val < 2048 := (i 2).isLt
  obtain ⟨e0, e1, e2⟩ := (where_blocks t).2.2.2.2.2
  obtain ⟨-, -, s0, s1, s2⟩ := sizes t
  refine ⟨fun h => ?_, fun h a => ?_⟩
  · have a0 : win0_5.index t 0 * 1 ≤ (i 0).val ∧ (i 0).val < win0_5.index t 0 * 1 + win0_5.xsize (grid0.coords t) 0 := h 0
    have a2 : win0_5.index t 2 * 512 ≤ (i 2).val ∧ (i 2).val < win0_5.index t 2 * 512 + win0_5.xsize (grid0.coords t) 2 := h 2
    rw [e0, s0] at a0; rw [e2, s2] at a2; omega
  · match a with
    | ⟨0, _⟩ => show win0_5.index t 0 * 1 ≤ (i 0).val ∧ (i 0).val < win0_5.index t 0 * 1 + win0_5.xsize (grid0.coords t) 0
                rw [e0, s0]; omega
    | ⟨1, _⟩ => show win0_5.index t 1 * 1 ≤ (i 1).val ∧ (i 1).val < win0_5.index t 1 * 1 + win0_5.xsize (grid0.coords t) 1
                rw [e1, s1]; omega
    | ⟨2, _⟩ => show win0_5.index t 2 * 512 ≤ (i 2).val ∧ (i 2).val < win0_5.index t 2 * 512 + win0_5.xsize (grid0.coords t) 2
                rw [e2, s2]; omega

/-- The array of scales after the run. -/
theorem final_scale (c : Dev nD) : (dats m 0 c).arrAt 5 cfg0.N = scaleArr m c :=
  (dats m 0 c).arrAt_eq_of_cover 5 (scaleArr m c) (fun t _ => flushed_scale m c t) fun (i : S3x1x2048.Idx) => by
    have h0 : (tok i).val < 6144 := (tok i).isLt
    have e : cfg0.N = 12 := N_0
    refine ⟨⟨(tok i).val / 512, by omega⟩, flush0_5 _, (mem_scale _ i).mpr ?_⟩
    dsimp only
    omega

/-- The kernel's run: its three result arrays, and its arguments unchanged. -/
theorem run_arrays (ρ : Dev nD → PrngReg) :
    θ_run defs (onTc (τ := τ) (main (F := Ideal))) ⟨m, fun _ => 0, ρ⟩ fun r => ∀ c : Dev nD,
      r.2.mem ((c : Thread nD τ).loc main_v2_0) = yArr m c
      ∧ r.2.mem ((c : Thread nD τ).loc main_v2_1) = codeArr m c
      ∧ r.2.mem ((c : Thread nD τ).loc main_v2_2) = scaleArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_y m c), (h c).2.1.trans (final_code m c),
      (h c).2.2.1.trans (final_scale m c), (h c).2.2.2⟩)
    (Value.run_blocks m ρ)

end Cert.KernelIdeal.Gen

end
-- ==== Proof.RefBlock.lean ====
/-
  What the reference computes, element by element: the exponent of a token, its codes, scales and outputs.
-/
module

public import proofs.«01_k».proof.Proof.Gen.ReferenceIdeal.Skeleton
public import proofs.«01_k».proof.Proof.Spec
public import Idealize.ShloMosaic.Lib.Pointwise

@[expose] public section

noncomputable section

namespace Cert.ReferenceIdeal.Gen

open Idealize.ShloMosaic Cert.Scale

/-! ## Single operations at an index -/

theorem max_at (v : FVec Ideal S6144x2048 .f32) (j : S6144.Idx) :
    multiReduction .maximumf [1] S6144 v 0xFF800000#32 reduces_S6144x2048_S6144 (.inl rfl) rfl j
      = Finset.univ.fold max (Ideal.ofBits .f32 0xFF800000#32) fun k : Fin 2048 => v (ix2 (j 0) k) := by
  idx_vars j
  pointwise

theorem sum_at (v : FVec Ideal S6144x254 .f32) (j : S6144.Idx) :
    multiReduction .add [1] S6144 v 0x00000000#32 reduces_S6144x254_S6144 (.inl rfl) rfl j = ∑ k : Fin 254, v (ix2 (j 0) k) := by
  idx_vars j
  pointwise

theorem col_at (v : FVec Ideal S6144 .f32) (j : S6144x1.Idx) : shapeCast S6144x1 v shapeCasts_S6144_S6144x1 j = v (ix1 (j 0)) := by
  idx_vars j
  pointwise

theorem over254_at (v : FVec Ideal S6144x1 .f32) (j : S6144x254.Idx) :
    broadcastTo S6144x254 v broadcasts_S6144x1_S6144x254 j = v (ix2 (j 0) 0) := by
  idx_vars j
  pointwise

theorem row254_at (v : FVec Ideal S1x254 .f32) (j : S6144x254.Idx) :
    broadcastTo S6144x254 v broadcasts_S1x254_S6144x254 j = v (ix2 0 (j 1)) := by
  idx_vars j
  pointwise

theorem over2048_at (v : FVec Ideal S6144x1 .f32) (j : S6144x2048.Idx) :
    broadcastTo S6144x2048 v broadcasts_S6144x1_S6144x2048 j = v (ix2 (j 0) 0) := by
  idx_vars j
  pointwise

theorem over4096_at (v : FVec Ideal S6144x1 .f32) (j : S6144x4096.Idx) :
    broadcastTo S6144x4096 v broadcasts_S6144x1_S6144x4096 j = v (ix2 (j 0) 0) := by
  idx_vars j
  pointwise

theorem row4096_at (v : FVec Ideal S1x4096 .f32) (j : S6144x4096.Idx) :
    broadcastTo S6144x4096 v broadcasts_S1x4096_S6144x4096 j = v (ix2 0 (j 1)) := by
  idx_vars j
  pointwise

theorem iota_at (j : S1x254.Idx) : iota .tc S1x254 32 [1] iota_S1x254_d1_w32 j = BitVec.ofNat 32 (j 1).val := by
  idx_vars j
  pointwise

theorem dot_at (q : FVec Ideal S6144x2048 .fp8e4m3) (w : Vec Ideal S2048x4096 .fp8e4m3) (j : S6144x4096.Idx) :
    matmul (F := Ideal) (φ₁ := .fp8e4m3) (φ₂ := .fp8e4m3) dot_S6144x2048_S2048x4096_S6144x4096_1_0_0_1_n_n none q w (constant S6144x4096 .f32 0x00000000#32) j
      = ∑ k : Fin 2048, q (ix2 (j 0) k) * w (ix2 k (j 1)) := by
  idx_vars j
  pointwise

/-! ## The exponent -/

/-- The column of the tokens' largest magnitudes. -/
def maxCol (x : FVec Ideal S6144x2048 .f32) : FVec Ideal S6144x1 .f32 :=
  shapeCast S6144x1 (multiReduction .maximumf [1] S6144 (absf x) 0xFF800000#32 reduces_S6144x2048_S6144 (.inl rfl) rfl) shapeCasts_S6144_S6144x1

theorem maxCol_apply (x : FVec Ideal S6144x2048 .f32) (j : S6144x1.Idx) : maxCol x j = rowMax fun k => x (ix2 (j 0) k) := by
  unfold maxCol
  rw [col_at, max_at, neg_inf]
  rfl

/-- Ones where a power of two is at most the column's number, zeros elsewhere. -/
def onesOf (v : FVec Ideal S6144x1 .f32) : FVec Ideal S6144x254 .f32 :=
  select (cmpf .oge (broadcastTo S6144x254 v broadcasts_S6144x1_S6144x254)
      (broadcastTo S6144x254 (exp2 (subf (sitofp .f32 (iota .tc S1x254 32 [1] iota_S1x254_d1_w32))
        (broadcast S1x254 (Scalar.ofBits .f32 0x42FC0000#32)))) broadcasts_S1x254_S6144x254))
    (broadcast S6144x254 (Scalar.ofBits .f32 0x3F800000#32)) (broadcast S6144x254 (Scalar.ofBits .f32 0x00000000#32))

theorem onesOf_apply (v : FVec Ideal S6144x1 .f32) (r : Fin 6144) (k : Fin 254) : onesOf v (ix2 r k)
    = Scalar.select (Ideal.cmp .oge (v (ix2 r 0)) (Ideal.exp2 ((((BitVec.ofNat 32 k.val).toInt : ℝ) : EReal) - Ideal.ofBits .f32 0x42FC0000#32)))
        (Ideal.ofBits .f32 0x3F800000#32) (Ideal.ofBits .f32 0x00000000#32) := by
  have e1 := over254_at v (ix2 r k)
  have e2 := row254_at (exp2 (subf (sitofp .f32 (iota .tc S1x254 32 [1] iota_S1x254_d1_w32))
        (broadcast S1x254 (Scalar.ofBits .f32 0x42FC0000#32)))) (ix2 r k)
  have e3 := iota_at (ix2 0 k)
  refine congrArg (fun b => Scalar.select b (Ideal.ofBits .f32 0x3F800000#32) (Ideal.ofBits .f32 0x00000000#32)) ?_
  refine congrArg₂ (Ideal.cmp .oge) e1 (e2.trans ?_)
  exact congrArg (fun b : BitVec 32 => Ideal.exp2 (((b.toInt : ℝ) : EReal) - Ideal.ofBits .f32 0x42FC0000#32)) e3

/-- The column of counts. -/
def countCol (v : FVec Ideal S6144x1 .f32) : FVec Ideal S6144x1 .f32 :=
  shapeCast S6144x1 (multiReduction .add [1] S6144 (onesOf v) 0x00000000#32 reduces_S6144x254_S6144 (.inl rfl) rfl) shapeCasts_S6144_S6144x1

theorem countCol_apply (v : FVec Ideal S6144x1 .f32) (j : S6144x1.Idx) : countCol v j = ∑ k : Fin 254, onesOf v (ix2 (j 0) k) := by
  unfold countCol
  rw [col_at, sum_at]
  rfl

/-- The exponent column, of the column of maxima, of the scaled maxima and of the counts. -/
def expCol (a v n : FVec Ideal S6144x1 .f32) : FVec Ideal S6144x1 .f32 :=
  select (cmpf .oeq a (broadcast S6144x1 (Scalar.ofBits .f32 0x00000000#32))) (broadcast S6144x1 (Scalar.ofBits .f32 0x00000000#32))
    (select (cmpf .olt v (broadcast S6144x1 (Scalar.ofBits .f32 0x00800000#32))) (broadcast S6144x1 (Scalar.ofBits .f32 0x00000000#32))
      (subf n (broadcast S6144x1 (Scalar.ofBits .f32 0x42FC0000#32))))

theorem pay4_eq (v0 : Vec Ideal S6144x2048 .bf16) : k0_pay4 (F := Ideal) v0
    = expCol (maxCol (k0_pay3 v0)) (mulf (maxCol (k0_pay3 v0)) (broadcast S6144x1 (Scalar.ofBits .f32 0x3B124925#32)))
        (countCol (mulf (maxCol (k0_pay3 v0)) (broadcast S6144x1 (Scalar.ofBits .f32 0x3B124925#32)))) := rfl

/-- The tokens, widened, are the tokens. -/
theorem pay3_eq (v0 : Vec Ideal S6144x2048 .bf16) : (k0_pay3 (F := Ideal) v0 : S6144x2048.Idx → EReal) = v0 := by
  unfold k0_pay3
  rw [shapeCast_self]
  rfl

/-- The exponent column at a row. -/
theorem expCol_apply (a v n : FVec Ideal S6144x1 .f32) (j : S6144x1.Idx) : expCol a v n j
    = Scalar.select (Ideal.cmp .oeq (a j) (Ideal.ofBits .f32 0x00000000#32)) (Ideal.ofBits .f32 0x00000000#32)
        (Scalar.select (Ideal.cmp .olt (v j) (Ideal.ofBits .f32 0x00800000#32)) (Ideal.ofBits .f32 0x00000000#32)
          (n j - Ideal.ofBits .f32 0x42FC0000#32)) := rfl

/-- The column of maxima times the float32 nearest 1/448. -/
def vCol (a : FVec Ideal S6144x1 .f32) : FVec Ideal S6144x1 .f32 := mulf a (broadcast S6144x1 (Scalar.ofBits .f32 0x3B124925#32))

theorem vCol_apply (a : FVec Ideal S6144x1 .f32) (j : S6144x1.Idx) : vCol a j = a j * Ideal.ofBits .f32 0x3B124925#32 := rfl

theorem pay4_v (v0 : Vec Ideal S6144x2048 .bf16) : k0_pay4 (F := Ideal) v0
    = expCol (maxCol (k0_pay3 v0)) (vCol (maxCol (k0_pay3 v0))) (countCol (vCol (maxCol (k0_pay3 v0)))) := pay4_eq v0

/-- The counts, when the column is known row by row. -/
theorem countCol_of (v : FVec Ideal S6144x1 .f32) (j : S6144x1.Idx) (y : EReal) (h : v (ix2 (j 0) 0) = y) :
    countCol v j = ∑ k : Fin 254, Scalar.select (Ideal.cmp .oge y
          (Ideal.exp2 ((((BitVec.ofNat 32 k.val).toInt : ℝ) : EReal) - Ideal.ofBits .f32 0x42FC0000#32)))
        (Ideal.ofBits .f32 0x3F800000#32) (Ideal.ofBits .f32 0x00000000#32) := by
  subst h
  exact (countCol_apply v j).trans (Finset.sum_congr rfl fun k _ => onesOf_apply v (j 0) k)

/-- The exponent of each token, as the reference counts it. -/
theorem pay4_apply (v0 : Vec Ideal S6144x2048 .bf16) (j : S6144x1.Idx) :
    k0_pay4 (F := Ideal) v0 j = rExp fun k => v0 (ix2 (j 0) k) := by
  have ha : ∀ i : S6144x1.Idx, maxCol (k0_pay3 v0) i = rowMax fun k => v0 (ix2 (i 0) k) := fun i =>
    (maxCol_apply (k0_pay3 v0) i).trans (congrArg (fun x : S6144x2048.Idx → EReal => rowMax fun k => x (ix2 (i 0) k)) (pay3_eq v0))
  have hv : ∀ i : S6144x1.Idx, vCol (maxCol (k0_pay3 v0)) i = vOf fun k => v0 (ix2 (i 0) k) := fun i =>
    (vCol_apply _ i).trans (congrArg (fun a : EReal => a * Ideal.ofBits .f32 0x3B124925#32) (ha i))
  rw [pay4_v, expCol_apply, ha, hv, countCol_of _ j _ (hv (ix2 (j 0) 0))]
  unfold rExp
  exact rfl

/-! ## The scales, the codes and the outputs -/

theorem pay5_eq (v0 : Vec Ideal S6144x2048 .bf16) : k0_pay5 (F := Ideal) v0 = exp2 (k0_pay4 (F := Ideal) v0) := rfl

theorem exp2_at (e : FVec Ideal S6144x1 .f32) (j : S6144x1.Idx) : exp2 e j = Ideal.exp2 (e j) := rfl

/-- The scales. -/
theorem pay5_apply (v0 : Vec Ideal S6144x2048 .bf16) (j : S6144x1.Idx) :
    k0_pay5 (F := Ideal) v0 j = rScale fun k => v0 (ix2 (j 0) k) := by
  rw [pay5_eq, exp2_at]
  exact (congrArg Ideal.exp2 (pay4_apply v0 j)).trans rfl

/-- The column of scales, laid along the lanes: the token of an index is `2048 * i0 + i2`. -/
theorem pay2_apply (e : FVec Ideal S6144x1 .f32) (j : S3x1x2048.Idx) :
    k0_pay2 e j = e (ix2 (⟨(j 0).val * 2048 + (j 2).val, by
      have h0 : (j 0).val < 3 := (j 0).isLt; have h2 : (j 2).val < 2048 := (j 2).isLt; omega⟩ : Fin 6144) 0) := by
  unfold k0_pay2
  have h1 : (j 1).val < 1 := (j 1).isLt
  refine shapeCast_apply _ _ j _ ?_
  rw [Shape.rowMajor_val_two, Shape.rowMajor_val_three]
  show ((j 0).val * 2048 + (j 2).val) * 1 + 0 = ((j 0).val * 1 + (j 1).val) * 2048 + (j 2).val
  omega

/-- The codes, of the tokens and of their exponents. -/
def codeOf (x : FVec Ideal S6144x2048 .f32) (e : FVec Ideal S6144x1 .f32) : FVec Ideal S6144x2048 .fp8e4m3 :=
  truncf .fp8e4m3 (minimumf (broadcast S6144x2048 (Scalar.ofBits .f32 0x43E00000#32)) (maximumf (broadcast S6144x2048 (Scalar.ofBits .f32 0xC3E00000#32))
    (mulf x (broadcastTo S6144x2048 (exp2 (subf (broadcast S6144x1 (Scalar.ofBits .f32 0x00000000#32)) e)) broadcasts_S6144x1_S6144x2048)))) bitsLt_fp8e4m3_f32

theorem codeOf_at (x : FVec Ideal S6144x2048 .f32) (e : FVec Ideal S6144x1 .f32) (j : S6144x2048.Idx) :
    codeOf x e j = clip (x j * broadcastTo S6144x2048 (exp2 (subf (broadcast S6144x1 (Scalar.ofBits .f32 0x00000000#32)) e)) broadcasts_S6144x1_S6144x2048 j) := rfl

theorem neg_at (e : FVec Ideal S6144x1 .f32) (i : S6144x1.Idx) :
    exp2 (subf (broadcast S6144x1 (Scalar.ofBits .f32 0x00000000#32)) e) i = Ideal.exp2 (Ideal.ofBits .f32 0x00000000#32 - e i) := rfl

theorem pay6_eq (v0 : Vec Ideal S6144x2048 .bf16) : k0_pay6 (F := Ideal) v0 = codeOf (k0_pay3 v0) (k0_pay4 v0) := rfl

/-- The codes. -/
theorem pay6_apply (v0 : Vec Ideal S6144x2048 .bf16) (j : S6144x2048.Idx) :
    k0_pay6 (F := Ideal) v0 j = rCode (fun k => v0 (ix2 (j 0) k)) (j 1) := by
  rw [pay6_eq, codeOf_at, over2048_at, neg_at, pay4_apply]
  have h3 : k0_pay3 (F := Ideal) v0 j = v0 (ix2 (j 0) (j 1)) := (congrFun (pay3_eq v0) j).trans (congrArg v0 (by idx_vars j))
  rw [h3]
  unfold rCode
  exact rfl

theorem pay1_eq (sc : FVec Ideal S6144x1 .f32) (q : FVec Ideal S6144x2048 .fp8e4m3) (w : Vec Ideal S2048x4096 .fp8e4m3)
    (s : Vec Ideal S1x4096 .f32) (j : S6144x4096.Idx) : k0_pay1 sc q w s j
      = matmul (φ₁ := .fp8e4m3) (φ₂ := .fp8e4m3) dot_S6144x2048_S2048x4096_S6144x4096_1_0_0_1_n_n none q w (constant (F := Ideal) S6144x4096 .f32 0x00000000#32) j
        * broadcastTo S6144x4096 sc broadcasts_S6144x1_S6144x4096 j
        * broadcastTo S6144x4096 (shapeCast S1x4096 s shapeCasts_S1x4096_S1x4096) broadcasts_S1x4096_S6144x4096 j := rfl

/-- The outputs. -/
theorem pay1_apply (sc : FVec Ideal S6144x1 .f32) (q : FVec Ideal S6144x2048 .fp8e4m3) (w : Vec Ideal S2048x4096 .fp8e4m3)
    (s : Vec Ideal S1x4096 .f32) (j : S6144x4096.Idx) :
    k0_pay1 sc q w s j = outOf (fun k => q (ix2 (j 0) k)) (sc (ix2 (j 0) 0)) (fun k => w (ix2 k (j 1))) (s (ix2 0 (j 1))) := by
  rw [pay1_eq, dot_at, over4096_at, row4096_at, shapeCast_self]
  unfold outOf
  exact rfl

end Cert.ReferenceIdeal.Gen

end
-- ==== Proof.RefArray.lean ====
/-
  What the reference's three result arrays hold after its run: it has one block, the whole of every array.
-/
module

public import proofs.«01_k».proof.Proof.Gen.ReferenceIdeal.Frame
public import Idealize.ShloMosaic.Lib.Pipeline.Value
public import proofs.«01_k».proof.Proof.RefBlock

@[expose] public section

noncomputable section

namespace Cert.ReferenceIdeal.Gen

open Idealize.ShloMosaic Idealize.ShloMosaic.TcCoe Idealize.ShloMosaic.Tactic Idealize.SL.Sem Cert.Scale
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The tokens, the weights' codes and the weights' scales as the call finds them. -/
abbrev inX (c : Dev nD) : Vec Ideal S6144x2048 .bf16 := V m c main_v0
abbrev inW (c : Dev nD) : Vec Ideal S2048x4096 .fp8e4m3 := V m c main_arg1
abbrev inS (c : Dev nD) : Vec Ideal S1x4096 .f32 := V m c main_v1

/-- The outputs: row by row of tokens, column by column of weights. -/
abbrev yArr (c : Dev nD) : Vec Ideal S6144x4096 .bf16 := fun i =>
  outOf (rCode fun k => inX m c (ix2 (i 0) k)) (rScale fun k => inX m c (ix2 (i 0) k)) (fun k => inW m c (ix2 k (i 1))) (inS m c (ix2 0 (i 1)))

/-- The codes of every token. -/
abbrev codeArr (c : Dev nD) : Vec Ideal S6144x2048 .fp8e4m3 := fun i => rCode (fun k => inX m c (ix2 (i 0) k)) (i 1)

/-- The token whose scale stands at an index of the (3, 1, 2048) array of scales. -/
abbrev tok (i : S3x1x2048.Idx) : Fin 6144 :=
  ⟨(i 0).val * 2048 + (i 2).val, by have h0 : (i 0).val < 3 := (i 0).isLt; have h2 : (i 2).val < 2048 := (i 2).isLt; omega⟩

/-- The scales of every token. -/
abbrev scaleArr (c : Dev nD) : Vec Ideal S3x1x2048 .f32 := fun i => rScale fun k => inX m c (ix2 (tok i) k)

/-! ## What the body leaves in its buffers -/

theorem ld_x (x : Vec Ideal S6144x2048 .bf16) : View.ld (Val := Elt Ideal) (e' := .bf16) x r0_0 = x := View.ld_unit_zero hz2 _ x
theorem ld_w (x : Vec Ideal S2048x4096 .fp8e4m3) : View.ld (Val := Elt Ideal) (e' := .fp8e4m3) x r0_1 = x := View.ld_unit_zero hz2 _ x
theorem ld_s (x : Vec Ideal S1x4096 .f32) : View.ld (Val := Elt Ideal) (e' := .f32) x r0_2 = x := View.ld_unit_zero hz2 _ x

theorem pay7_eq (x0 : Vec Ideal S6144x2048 .bf16) (x1 : Vec Ideal S2048x4096 .fp8e4m3) (x2 : Vec Ideal S1x4096 .f32) :
    k0_pay7 (F := Ideal) x0 x1 x2 = k0_pay5 x0 := by
  unfold k0_pay7
  rw [ld_x]

theorem pay8_eq (x0 : Vec Ideal S6144x2048 .bf16) (x1 : Vec Ideal S2048x4096 .fp8e4m3) (x2 : Vec Ideal S1x4096 .f32) :
    k0_pay8 (F := Ideal) x0 x1 x2 = k0_pay6 x0 := by
  unfold k0_pay8
  rw [ld_x]

/-- The outputs. -/
theorem out3_apply (x0 : Vec Ideal S6144x2048 .bf16) (x1 : Vec Ideal S2048x4096 .fp8e4m3) (x2 : Vec Ideal S1x4096 .f32) (j : S6144x4096.Idx) :
    out0_3 (F := Ideal) x0 x1 x2 j
      = outOf (rCode fun k => x0 (ix2 (j 0) k)) (rScale fun k => x0 (ix2 (j 0) k)) (fun k => x1 (ix2 k (j 1))) (x2 (ix2 0 (j 1))) := by
  unfold out0_3
  rw [View.canon_unit_zero hz2, pay7_eq, pay8_eq, ld_w, ld_s, pay1_apply, pay5_apply]
  have h : (fun k : Fin 2048 => k0_pay6 (F := Ideal) x0 (ix2 (j 0) k)) = rCode fun k => x0 (ix2 (j 0) k) :=
    funext fun k => pay6_apply x0 (ix2 (j 0) k)
  exact congrArg (fun q : Fin 2048 → EReal => outOf q (rScale fun k => x0 (ix2 (j 0) k)) (fun k => x1 (ix2 k (j 1))) (x2 (ix2 0 (j 1)))) h

/-- The codes. -/
theorem out4_apply (x0 : Vec Ideal S6144x2048 .bf16) (x1 : Vec Ideal S2048x4096 .fp8e4m3) (x2 : Vec Ideal S1x4096 .f32) (j : S6144x2048.Idx) :
    out0_4 (F := Ideal) x0 x1 x2 j = rCode (fun k => x0 (ix2 (j 0) k)) (j 1) := by
  unfold out0_4
  rw [View.canon_unit_zero hz2, pay8_eq]
  exact pay6_apply x0 j

/-- The scales. -/
theorem out5_apply (x0 : Vec Ideal S6144x2048 .bf16) (x1 : Vec Ideal S2048x4096 .fp8e4m3) (x2 : Vec Ideal S1x4096 .f32) (j : S3x1x2048.Idx) :
    out0_5 (F := Ideal) x0 x1 x2 j = rScale fun k => x0 (ix2 (tok j) k) := by
  unfold out0_5
  rw [pay7_eq]
  rw [View.canon_unit_zero hz3, pay2_apply, pay5_apply]
  exact rfl

/-! ## The one block is the whole array -/

theorem where_blocks : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0)
    ∧ (win0_5.index t 0 = 0 ∧ win0_5.index t 1 = 0 ∧ win0_5.index t 2 = 0) := by
  decide +kernel

theorem sizes : ∀ t : Fin grid0.N,
    (win0_3.xsize (grid0.coords t) 0 = 6144 ∧ win0_3.xsize (grid0.coords t) 1 = 4096)
    ∧ (win0_4.xsize (grid0.coords t) 0 = 6144 ∧ win0_4.xsize (grid0.coords t) 1 = 2048)
    ∧ (win0_5.xsize (grid0.coords t) 0 = 3 ∧ win0_5.xsize (grid0.coords t) 1 = 1 ∧ win0_5.xsize (grid0.coords t) 2 = 2048) := by
  decide +kernel

theorem blk_x (c : Dev nD) (t : Fin cfg0.N) : (iblk m c 0 t : Vec Ideal S6144x2048 .bf16) = inX m c := by
  obtain ⟨⟨e0, e1⟩, -⟩ := where_blocks t
  funext (j : S6144x2048.Idx)
  unfold iblk
  rw [View.read_apply]
  refine congrArg (inX m c) (funext fun a => Fin.ext ?_)
  match a with
  | ⟨0, _⟩ => show win0_0.index t 0 * 6144 + 1 * (j 0).val = (j 0).val; rw [e0, Nat.zero_mul, Nat.zero_add, Nat.one_mul]
  | ⟨1, _⟩ => show win0_0.index t 1 * 2048 + 1 * (j 1).val = (j 1).val; rw [e1, Nat.zero_mul, Nat.zero_add, Nat.one_mul]

theorem blk_w (c : Dev nD) (t : Fin cfg0.N) : (iblk m c 1 t : Vec Ideal S2048x4096 .fp8e4m3) = inW m c := by
  obtain ⟨-, ⟨e0, e1⟩, -⟩ := where_blocks t
  funext (j : S2048x4096.Idx)
  unfold iblk
  rw [View.read_apply]
  refine congrArg (inW m c) (funext fun a => Fin.ext ?_)
  match a with
  | ⟨0, _⟩ => show win0_1.index t 0 * 2048 + 1 * (j 0).val = (j 0).val; rw [e0, Nat.zero_mul, Nat.zero_add, Nat.one_mul]
  | ⟨1, _⟩ => show win0_1.index t 1 * 4096 + 1 * (j 1).val = (j 1).val; rw [e1, Nat.zero_mul, Nat.zero_add, Nat.one_mul]

theorem blk_s (c : Dev nD) (t : Fin cfg0.N) : (iblk m c 2 t : Vec Ideal S1x4096 .f32) = inS m c := by
  obtain ⟨-, -, ⟨e0, e1⟩, -⟩ := where_blocks t
  funext (j : S1x4096.Idx)
  unfold iblk
  rw [View.read_apply]
  refine congrArg (inS m c) (funext fun a => Fin.ext ?_)
  match a with
  | ⟨0, _⟩ => show win0_2.index t 0 * 1 + 1 * (j 0).val = (j 0).val; rw [e0, Nat.zero_mul, Nat.zero_add, Nat.one_mul]
  | ⟨1, _⟩ => show win0_2.index t 1 * 4096 + 1 * (j 1).val = (j 1).val; rw [e1, Nat.zero_mul, Nat.zero_add, Nat.one_mul]

theorem in_bounds (a n : ℕ) (h : a < n) : 0 * n ≤ a ∧ a < 0 * n + n := by omega

/-! ## The arrays -/

theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

theorem emb3 (t : Fin cfg0.N) (j : S6144x4096.Idx) : (((cfg0.win 3).blk t).view.emb j : S6144x4096.Idx) = j := by
  refine funext fun a => Fin.ext ?_
  match a with
  | ⟨0, _⟩ => show win0_3.index t 0 * 6144 + 1 * (j 0).val = (j 0).val; rw [(where_blocks t).2.2.2.1.1, Nat.zero_mul, Nat.zero_add, Nat.one_mul]
  | ⟨1, _⟩ => show win0_3.index t 1 * 4096 + 1 * (j 1).val = (j 1).val; rw [(where_blocks t).2.2.2.1.2, Nat.zero_mul, Nat.zero_add, Nat.one_mul]

theorem flushed_y (c : Dev nD) (t : Fin cfg0.N) : (dats m 0 c).flushed 3 t = ((cfg0.win 3).blk t).view.read (Elt Ideal) (yArr m c) := by
  rw [flushed3, blk_x, blk_w, blk_s]
  funext (j : S6144x4096.Idx)
  rw [View.read_apply]
  refine (out3_apply (inX m c) (inW m c) (inS m c) j).trans ?_
  exact (congrArg (yArr m c) (emb3 t j)).symm

theorem mem_y (t : Fin cfg0.N) (i : S6144x4096.Idx) : i ∈ ((cfg0.win 3).blk t).view.set := by
  show i ∈ ((View.whole main_v2_0).slice (win0_3.rect t)).set
  rw [View.set_slice_whole, Rect.mem_set_unit]
  intro a
  match a with
  | ⟨0, _⟩ => show win0_3.index t 0 * 6144 ≤ (i 0).val ∧ (i 0).val < win0_3.index t 0 * 6144 + win0_3.xsize (grid0.coords t) 0
              rw [(where_blocks t).2.2.2.1.1, (sizes t).1.1]; exact in_bounds _ _ (i 0).isLt
  | ⟨1, _⟩ => show win0_3.index t 1 * 4096 ≤ (i 1).val ∧ (i 1).val < win0_3.index t 1 * 4096 + win0_3.xsize (grid0.coords t) 1
              rw [(where_blocks t).2.2.2.1.2, (sizes t).1.2]; exact in_bounds _ _ (i 1).isLt

/-- The array of outputs after the run. -/
theorem final_y (c : Dev nD) : (dats m 0 c).arrAt 3 cfg0.N = yArr m c :=
  (dats m 0 c).arrAt_eq_of_cover 3 (yArr m c) (fun t _ => flushed_y m c t) fun i =>
    ⟨⟨0, by have e : cfg0.N = 1 := N_0; omega⟩, flush0_3 _, mem_y _ i⟩

theorem emb4 (t : Fin cfg0.N) (j : S6144x2048.Idx) : (((cfg0.win 4).blk t).view.emb j : S6144x2048.Idx) = j := by
  refine funext fun a => Fin.ext ?_
  match a with
  | ⟨0, _⟩ => show win0_4.index t 0 * 6144 + 1 * (j 0).val = (j 0).val; rw [(where_blocks t).2.2.2.2.1.1, Nat.zero_mul, Nat.zero_add, Nat.one_mul]
  | ⟨1, _⟩ => show win0_4.index t 1 * 2048 + 1 * (j 1).val = (j 1).val; rw [(where_blocks t).2.2.2.2.1.2, Nat.zero_mul, Nat.zero_add, Nat.one_mul]

theorem flushed_code (c : Dev nD) (t : Fin cfg0.N) : (dats m 0 c).flushed 4 t = ((cfg0.win 4).blk t).view.read (Elt Ideal) (codeArr m c) := by
  rw [flushed4, blk_x, blk_w, blk_s]
  funext (j : S6144x2048.Idx)
  rw [View.read_apply]
  refine (out4_apply (inX m c) (inW m c) (inS m c) j).trans ?_
  exact (congrArg (codeArr m c) (emb4 t j)).symm

theorem mem_code (t : Fin cfg0.N) (i : S6144x2048.Idx) : i ∈ ((cfg0.win 4).blk t).view.set := by
  show i ∈ ((View.whole main_v2_1).slice (win0_4.rect t)).set
  rw [View.set_slice_whole, Rect.mem_set_unit]
  intro a
  match a with
  | ⟨0, _⟩ => show win0_4.index t 0 * 6144 ≤ (i 0).val ∧ (i 0).val < win0_4.index t 0 * 6144 + win0_4.xsize (grid0.coords t) 0
              rw [(where_blocks t).2.2.2.2.1.1, (sizes t).2.1.1]; exact in_bounds _ _ (i 0).isLt
  | ⟨1, _⟩ => show win0_4.index t 1 * 2048 ≤ (i 1).val ∧ (i 1).val < win0_4.index t 1 * 2048 + win0_4.xsize (grid0.coords t) 1
              rw [(where_blocks t).2.2.2.2.1.2, (sizes t).2.1.2]; exact in_bounds _ _ (i 1).isLt

/-- The array of codes after the run. -/
theorem final_code (c : Dev nD) : (dats m 0 c).arrAt 4 cfg0.N = codeArr m c :=
  (dats m 0 c).arrAt_eq_of_cover 4 (codeArr m c) (fun t _ => flushed_code m c t) fun i =>
    ⟨⟨0, by have e : cfg0.N = 1 := N_0; omega⟩, flush0_4 _, mem_code _ i⟩

theorem emb5 (t : Fin cfg0.N) (j : S3x1x2048.Idx) : (((cfg0.win 5).blk t).view.emb j : S3x1x2048.Idx) = j := by
  refine funext fun a => Fin.ext ?_
  match a with
  | ⟨0, _⟩ => show win0_5.index t 0 * 3 + 1 * (j 0).val = (j 0).val; rw [(where_blocks t).2.2.2.2.2.1, Nat.zero_mul, Nat.zero_add, Nat.one_mul]
  | ⟨1, _⟩ => show win0_5.index t 1 * 1 + 1 * (j 1).val = (j 1).val; rw [(where_blocks t).2.2.2.2.2.2.1, Nat.zero_mul, Nat.zero_add, Nat.one_mul]
  | ⟨2, _⟩ => show win0_5.index t 2 * 2048 + 1 * (j 2).val = (j 2).val; rw [(where_blocks t).2.2.2.2.2.2.2, Nat.zero_mul, Nat.zero_add, Nat.one_mul]

theorem flushed_scale (c : Dev nD) (t : Fin cfg0.N) : (dats m 0 c).flushed 5 t = ((cfg0.win 5).blk t).view.read (Elt Ideal) (scaleArr m c) := by
  rw [flushed5, blk_x, blk_w, blk_s]
  funext (j : S3x1x2048.Idx)
  rw [View.read_apply]
  refine (out5_apply (inX m c) (inW m c) (inS m c) j).trans ?_
  exact (congrArg (scaleArr m c) (emb5 t j)).symm

theorem mem_scale (t : Fin cfg0.N) (i : S3x1x2048.Idx) : i ∈ ((cfg0.win 5).blk t).view.set := by
  show i ∈ ((View.whole main_v2_2).slice (win0_5.rect t)).set
  rw [View.set_slice_whole, Rect.mem_set_unit]
  intro a
  match a with
  | ⟨0, _⟩ => show win0_5.index t 0 * 3 ≤ (i 0).val ∧ (i 0).val < win0_5.index t 0 * 3 + win0_5.xsize (grid0.coords t) 0
              rw [(where_blocks t).2.2.2.2.2.1, (sizes t).2.2.1]; exact in_bounds _ _ (i 0).isLt
  | ⟨1, _⟩ => show win0_5.index t 1 * 1 ≤ (i 1).val ∧ (i 1).val < win0_5.index t 1 * 1 + win0_5.xsize (grid0.coords t) 1
              rw [(where_blocks t).2.2.2.2.2.2.1, (sizes t).2.2.2.1]; exact in_bounds _ _ (i 1).isLt
  | ⟨2, _⟩ => show win0_5.index t 2 * 2048 ≤ (i 2).val ∧ (i 2).val < win0_5.index t 2 * 2048 + win0_5.xsize (grid0.coords t) 2
              rw [(where_blocks t).2.2.2.2.2.2.2, (sizes t).2.2.2.2]; exact in_bounds _ _ (i 2).isLt

/-- The array of scales after the run. -/
theorem final_scale (c : Dev nD) : (dats m 0 c).arrAt 5 cfg0.N = scaleArr m c :=
  (dats m 0 c).arrAt_eq_of_cover 5 (scaleArr m c) (fun t _ => flushed_scale m c t) fun i =>
    ⟨⟨0, by have e : cfg0.N = 1 := N_0; omega⟩, flush0_5 _, mem_scale _ i⟩

/-- The reference's run: its three result arrays, and its arguments unchanged. -/
theorem run_arrays (ρ : Dev nD → PrngReg) :
    θ_run defs (onTc (τ := τ) (main (F := Ideal))) ⟨m, fun _ => 0, ρ⟩ fun r => ∀ c : Dev nD,
      r.2.mem ((c : Thread nD τ).loc main_v2_0) = yArr m c
      ∧ r.2.mem ((c : Thread nD τ).loc main_v2_1) = codeArr m c
      ∧ r.2.mem ((c : Thread nD τ).loc main_v2_2) = scaleArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_y m c), ((h c).1 4).trans (final_code m c),
      ((h c).1 5).trans (final_scale m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.Gen

end
-- ==== Proof.Agree.lean ====
/-
  The two spellings agree: on a token of finite bfloat16 numbers the reference's counted exponent gives the kernel's scale
  and the kernel's codes.
-/
module

public import proofs.«01_k».proof.Proof.Spec
public import Idealize.ShloMosaic.Lib.IdealHost

@[expose] public section

noncomputable section

namespace Cert.Scale

open Idealize.ShloMosaic

/-! ## The constants -/

theorem c_zero : Ideal.ofBits .f32 0x00000000#32 = ((0 : ℝ) : EReal) := Ideal.ofBits_zero_f32

theorem c_one : Ideal.ofBits .f32 0x3F800000#32 = 1 := Ideal.ofBits_one_f32

theorem c_126 : Ideal.ofBits .f32 0x42FC0000#32 = ((126 : ℝ) : EReal) := by
  simp [Ideal.ofBits, Ideal.ieee]
  norm_cast
  norm_num

/-- The least normal float32. -/
theorem c_tiny : Ideal.ofBits .f32 0x00800000#32 = (((2 : ℝ) ^ (-126 : ℤ) : ℝ) : EReal) := by
  have h := word_eq 1 (by norm_num) (by norm_num)
  have e : IntOp.shli .vector (BitVec.ofNat 32 1) 23#32 = 0x00800000#32 := by rw [shl_eq]; decide
  rw [e] at h
  exact h

/-- The float32 nearest 1/448. -/
theorem c_448 : Ideal.ofBits .f32 0x3B124925#32 = (((9586981 : ℝ) * (2 : ℝ) ^ (-32 : ℤ) : ℝ) : EReal) := by
  simp [Ideal.ofBits, Ideal.ieee]

/-- The largest finite bfloat16. -/
theorem c_max : Ideal.ofBits .f32 0x7F7F0000#32 = (((16711680 : ℝ) * (2 : ℝ) ^ (104 : ℤ) : ℝ) : EReal) := by
  simp [Ideal.ofBits, Ideal.ieee]

/-! ## The scaled maximum is a real number below 2^120 -/

theorem abs_nonneg (t : EReal) : 0 ≤ max t (-t) := by
  rcases le_total 0 t with h | h
  · exact le_max_of_le_left h
  · exact le_max_of_le_right (EReal.neg_nonneg.mpr h)

/-- The largest magnitude of a token of finite bfloat16 numbers is one. -/
theorem rowMax_real (x : Fin 2048 → EReal) (h : ∀ k, max (x k) (-x k) ≤ Ideal.ofBits .f32 0x7F7F0000#32) :
    ∃ a : ℝ, rowMax x = (a : EReal) ∧ 0 ≤ a ∧ a ≤ 16711680 * (2 : ℝ) ^ (104 : ℤ) := by
  have hle : rowMax x ≤ (((16711680 : ℝ) * (2 : ℝ) ^ (104 : ℤ) : ℝ) : EReal) := c_max ▸ Finset.sup_le fun k _ => h k
  have hge : 0 ≤ rowMax x := (abs_nonneg (x 0)).trans (Finset.le_sup (f := fun k => max (x k) (-x k)) (Finset.mem_univ 0))
  have e : ((rowMax x).toReal : EReal) = rowMax x := EReal.coe_toReal (ne_top_of_le_ne_top (EReal.coe_ne_top _) hle)
    (ne_bot_of_le_ne_bot EReal.zero_ne_bot hge)
  rw [← e] at hle hge
  exact ⟨_, e.symm, EReal.coe_nonneg.mp hge, EReal.coe_le_coe_iff.mp hle⟩

/-- The scaled maximum, and that it is zero with the maximum. -/
theorem vOf_real (x : Fin 2048 → EReal) (h : ∀ k, max (x k) (-x k) ≤ Ideal.ofBits .f32 0x7F7F0000#32) :
    ∃ a v : ℝ, rowMax x = (a : EReal) ∧ vOf x = (v : EReal) ∧ v < (2 : ℝ) ^ (120 : ℤ) ∧ (a = 0 → v = 0) := by
  obtain ⟨a, ha, h0, h1⟩ := rowMax_real x h
  refine ⟨a, a * (9586981 * (2 : ℝ) ^ (-32 : ℤ)), ha, ?_, ?_, fun h => by rw [h, zero_mul]⟩
  · unfold vOf
    rw [ha, c_448, ← EReal.coe_mul]
  · refine lt_of_le_of_lt (mul_le_mul_of_nonneg_right h1 (by positivity)) ?_
    norm_num

/-! ## The exponent -/

theorem toInt_small : ∀ k : Fin 254, (BitVec.ofNat 32 k.val).toInt = (k.val : ℤ) := by decide +kernel

/-- The reference's powers of two. -/
theorem power_eq (k : Fin 254) : Ideal.exp2 ((((BitVec.ofNat 32 k.val).toInt : ℝ) : EReal) - Ideal.ofBits .f32 0x42FC0000#32)
    = (((2 : ℝ) ^ ((k.val : ℤ) - 126) : ℝ) : EReal) := by
  rw [toInt_small, c_126, ← EReal.coe_sub, ← exp2_int]
  congr 2
  push_cast
  ring

theorem select_olt (a b : ℝ) (s t : EReal) : Scalar.select (Ideal.cmp .olt (a : EReal) (b : EReal)) s t = if a < b then s else t := by
  unfold Scalar.select Ideal.cmp
  by_cases h : a < b <;> simp [h]

theorem select_oeq (a b : ℝ) (s t : EReal) : Scalar.select (Ideal.cmp .oeq (a : EReal) (b : EReal)) s t = if a = b then s else t := by
  unfold Scalar.select Ideal.cmp
  by_cases h : a = b <;> simp [h]

/-- The reference's exponent is the exponent of the scaled maximum. -/
theorem rExp_eq (x : Fin 2048 → EReal) (a v : ℝ) (ha : rowMax x = (a : EReal)) (hv : vOf x = (v : EReal)) (h0 : a = 0 → v = 0) :
    rExp x = ((expo v : ℝ) : EReal) := by
  unfold rExp
  rw [ha, hv, c_zero, select_oeq, c_tiny, select_olt, c_one, EReal.coe_zero, sum_eq v _ power_eq, c_126, ← EReal.coe_sub]
  unfold expo
  by_cases hs : v < (2 : ℝ) ^ (-126 : ℤ)
  · rw [if_pos hs, if_pos hs, ite_self, Int.cast_zero, EReal.coe_zero]
  · have hne : a ≠ 0 := fun h => hs (by rw [h0 h]; positivity)
    rw [if_neg hne, if_neg hs, if_neg hs]
    congr 1
    push_cast
    ring

/-- The scales agree, -/
theorem scale_agree (x : Fin 2048 → EReal) (h : ∀ k, max (x k) (-x k) ≤ Ideal.ofBits .f32 0x7F7F0000#32) : rScale x = kScale x := by
  obtain ⟨a, v, ha, hv, hlt, h0⟩ := vOf_real x h
  unfold rScale kScale
  rw [rExp_eq x a v ha hv h0, hv, (words_eq v hlt).1, exp2_int]

/-- and so do the codes. -/
theorem code_agree (x : Fin 2048 → EReal) (h : ∀ k, max (x k) (-x k) ≤ Ideal.ofBits .f32 0x7F7F0000#32) : rCode x = kCode x := by
  obtain ⟨a, v, ha, hv, hlt, h0⟩ := vOf_real x h
  funext k
  unfold rCode kCode
  rw [rExp_eq x a v ha hv h0, hv, (words_eq v hlt).2, c_zero, ← EReal.coe_sub, ← exp2_int]
  congr 5
  push_cast
  ring

end Cert.Scale

end
-- ==== Proof.Equation.lean ====
/-
  The equation: from equal arguments, the tokens finite, the reference's three arrays are the kernel's.
-/
module

public import proofs.«01_k».proof.Defs
public import proofs.«01_k».proof.Proof.Gen.Pre_finite
public import proofs.«01_k».proof.Proof.KernelArray
public import proofs.«01_k».proof.Proof.RefArray
public import proofs.«01_k».proof.Proof.Agree

@[expose] public section

noncomputable section

namespace Cert.Equation

open Idealize.ShloMosaic Idealize.ShloMosaic.TcCoe Idealize.ShloMosaic.Tactic Idealize.SL.Sem Cert.Scale

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The arguments of the two runs are equal on a device. -/
def Same (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)

/-! ## The inputs as the two calls find them -/

/-- The kernel's tokens are its first argument, its batches laid one after another, -/
theorem kernel_x (c : Dev KernelIdeal.nD) : KernelIdeal.Gen.inX m c
    = shapeCast KernelIdeal.S6144x2048 (m ((c : Thread KernelIdeal.nD KernelIdeal.τ).loc KernelIdeal.main_arg0) : Vec Ideal KernelIdeal.S3x2048x2048 .bf16)
        KernelIdeal.Facts₀.shapeCasts_S3x2048x2048_S6144x2048 := by
  unfold_abbrev_sides
  after_results
  rfl

/-- and the weights' scales its third, as a row. -/
theorem kernel_s (c : Dev KernelIdeal.nD) : KernelIdeal.Gen.inS m c
    = shapeCast KernelIdeal.S1x4096 (m ((c : Thread KernelIdeal.nD KernelIdeal.τ).loc KernelIdeal.main_arg2) : Vec Ideal KernelIdeal.S4096 .f32)
        KernelIdeal.Facts₀.shapeCasts_S4096_S1x4096 := by
  unfold_abbrev_sides
  after_results
  rfl

/-- The reference's tokens are its first argument, in the same layout, -/
theorem ref_x (c : Dev ReferenceIdeal.nD) : ReferenceIdeal.Gen.inX m' c
    = shapeCast ReferenceIdeal.S6144x2048 (m' ((c : Thread ReferenceIdeal.nD ReferenceIdeal.τ).loc ReferenceIdeal.main_arg0) : Vec Ideal ReferenceIdeal.S3x2048x2048 .bf16)
        ReferenceIdeal.Facts₀.shapeCasts_S3x2048x2048_S6144x2048 := by
  unfold_abbrev_sides
  after_results
  rfl

/-- and the weights' scales its third. -/
theorem ref_s (c : Dev ReferenceIdeal.nD) : ReferenceIdeal.Gen.inS m' c
    = shapeCast ReferenceIdeal.S1x4096 (m' ((c : Thread ReferenceIdeal.nD ReferenceIdeal.τ).loc ReferenceIdeal.main_arg2) : Vec Ideal ReferenceIdeal.S4096 .f32)
        ReferenceIdeal.Facts₀.shapeCasts_S4096_S1x4096 := by
  unfold_abbrev_sides
  after_results
  rfl

/-- Equal arguments are equal tokens, -/
theorem same_x (c : Dev KernelIdeal.nD) (h : Same m m' c) : ReferenceIdeal.Gen.inX m' c = KernelIdeal.Gen.inX m c := by
  rw [ref_x, kernel_x]
  exact congrArg (fun x : Vec Ideal KernelIdeal.S3x2048x2048 .bf16 => shapeCast KernelIdeal.S6144x2048 x KernelIdeal.Facts₀.shapeCasts_S3x2048x2048_S6144x2048) h.1

/-- equal codes of the weights, -/
theorem same_w (c : Dev KernelIdeal.nD) (h : Same m m' c) : ReferenceIdeal.Gen.inW m' c = KernelIdeal.Gen.inW m c :=
  (ReferenceIdeal.Gen.V_main_arg1 m' c).trans (h.2.1.trans (KernelIdeal.Gen.V_main_arg1 m c).symm)

/-- and equal scales of the weights. -/
theorem same_s (c : Dev KernelIdeal.nD) (h : Same m m' c) : ReferenceIdeal.Gen.inS m' c = KernelIdeal.Gen.inS m c := by
  rw [ref_s, kernel_s]
  exact congrArg (fun x : Vec Ideal KernelIdeal.S4096 .f32 => shapeCast KernelIdeal.S1x4096 x KernelIdeal.Facts₀.shapeCasts_S4096_S1x4096) h.2.2

/-! ## The precondition, read -/

/-- What the precondition says of an array of tokens. -/
theorem finite_arg (x : KernelIdeal.S3x2048x2048.Idx → EReal) (w : Vec Ideal KernelIdeal.S2048x4096 .fp8e4m3) (s : Vec Ideal KernelIdeal.S4096 .f32)
    (h : Cert.Pre_finite.fn (F := Ideal) x w s = fun _ => 1#1) (j : KernelIdeal.S3x2048x2048.Idx) :
    max (x j) (-x j) ≤ Ideal.ofBits .f32 0x7F7F0000#32 := by
  have hj := congrFun h j
  unfold Cert.Pre_finite.fn at hj
  by_contra hn
  have h0 : Ideal.cmp .ole (max (x j) (-x j)) (Ideal.ofBits .f32 0x7F7F0000#32) = 0#1 := by
    unfold Ideal.cmp
    simp only [hn]
    rfl
  have h1 : (0#1 : BitVec 1) = 1#1 := h0.symm.trans hj
  exact absurd h1 (by decide)

/-- Under the precondition no number of a token exceeds the largest finite bfloat16 in magnitude. -/
theorem finite_x (h : Cert.Pre_KernelIdeal_finite m) (c : Dev KernelIdeal.nD) (i : KernelIdeal.S6144x2048.Idx) :
    max (KernelIdeal.Gen.inX m c i) (-KernelIdeal.Gen.inX m c i) ≤ Ideal.ofBits .f32 0x7F7F0000#32 := by
  rw [kernel_x]
  exact finite_arg _ _ _ (h c) _

/-- The row of a finite token. -/
theorem finite_row (h : Cert.Pre_KernelIdeal_finite m) (c : Dev KernelIdeal.nD) (r : Fin 6144) (k : Fin 2048) :
    max (KernelIdeal.Gen.inX m c (ix2 r k)) (-KernelIdeal.Gen.inX m c (ix2 r k)) ≤ Ideal.ofBits .f32 0x7F7F0000#32 :=
  finite_x m h c (ix2 r k)

/-! ## The three arrays -/

/-- The codes are equal, -/
theorem code_eq (h : Cert.Pre_KernelIdeal_finite m) (c : Dev KernelIdeal.nD) (hs : Same m m' c) :
    ReferenceIdeal.Gen.codeArr m' c = KernelIdeal.Gen.codeArr m c := by
  funext (i : KernelIdeal.S6144x2048.Idx)
  show rCode (fun k => ReferenceIdeal.Gen.inX m' c (ix2 (i 0) k)) (i 1) = kCode (fun k => KernelIdeal.Gen.inX m c (ix2 (i 0) k)) (i 1)
  rw [same_x m m' c hs]
  exact congrFun (code_agree (fun k => KernelIdeal.Gen.inX m c (ix2 (i 0) k)) fun k => finite_row m h c (i 0) k) (i 1)

/-- the scales are equal, -/
theorem scale_eq (h : Cert.Pre_KernelIdeal_finite m) (c : Dev KernelIdeal.nD) (hs : Same m m' c) :
    ReferenceIdeal.Gen.scaleArr m' c = KernelIdeal.Gen.scaleArr m c := by
  funext (i : KernelIdeal.S3x1x2048.Idx)
  show rScale (fun k => ReferenceIdeal.Gen.inX m' c (ix2 (KernelIdeal.Gen.tok i) k)) = kScale (fun k => KernelIdeal.Gen.inX m c (ix2 (KernelIdeal.Gen.tok i) k))
  rw [same_x m m' c hs]
  exact scale_agree (fun k => KernelIdeal.Gen.inX m c (ix2 (KernelIdeal.Gen.tok i) k)) fun k => finite_row m h c (KernelIdeal.Gen.tok i) k

/-- and so are the outputs. -/
theorem y_eq (h : Cert.Pre_KernelIdeal_finite m) (c : Dev KernelIdeal.nD) (hs : Same m m' c) :
    ReferenceIdeal.Gen.yArr m' c = KernelIdeal.Gen.yArr m c := by
  funext (i : KernelIdeal.S6144x4096.Idx)
  show outOf (rCode fun k => ReferenceIdeal.Gen.inX m' c (ix2 (i 0) k)) (rScale fun k => ReferenceIdeal.Gen.inX m' c (ix2 (i 0) k))
      (fun k => ReferenceIdeal.Gen.inW m' c (ix2 k (i 1))) (ReferenceIdeal.Gen.inS m' c (ix2 0 (i 1)))
    = outOf (kCode fun k => KernelIdeal.Gen.inX m c (ix2 (i 0) k)) (kScale fun k => KernelIdeal.Gen.inX m c (ix2 (i 0) k))
      (fun k => KernelIdeal.Gen.inW m c (ix2 k (i 1))) (KernelIdeal.Gen.inS m c (ix2 0 (i 1)))
  rw [same_x m m' c hs, same_w m m' c hs, same_s m m' c hs]
  have hf : ∀ k : Fin 2048, max (KernelIdeal.Gen.inX m c (ix2 (i 0) k)) (-KernelIdeal.Gen.inX m c (ix2 (i 0) k)) ≤ Ideal.ofBits .f32 0x7F7F0000#32 :=
    fun k => finite_row m h c (i 0) k
  refine congrArg₂ (fun (q : Fin 2048 → EReal) (s : EReal) => outOf q s (fun k => KernelIdeal.Gen.inW m c (ix2 k (i 1))) (KernelIdeal.Gen.inS m c (ix2 0 (i 1)))) ?_ ?_
  · exact code_agree (fun k => KernelIdeal.Gen.inX m c (ix2 (i 0) k)) hf
  · exact scale_agree (fun k => KernelIdeal.Gen.inX m c (ix2 (i 0) k)) hf

/-! ## The claim -/

/-- The value claim: both programs run, and end with the same three arrays and their arguments unchanged. -/
theorem algebraic : Cert.algebraic_KernelIdeal_ReferenceIdeal_pre_finite := by
  intro m g m' g' hpre hsame
  refine ⟨fun c => KernelIdeal.Gen.yArr m c, fun c => KernelIdeal.Gen.codeArr m c, fun c => KernelIdeal.Gen.scaleArr m c,
    KernelIdeal.Gen.run_arrays m g, ?_⟩
  refine (θ_run _ _ _).mono (fun r h c => ?_) (ReferenceIdeal.Gen.run_arrays m' g')
  exact ⟨(h c).1.trans (y_eq m m' hpre c (hsame c)), (h c).2.1.trans (code_eq m m' hpre c (hsame c)),
    (h c).2.2.1.trans (scale_eq m m' hpre c (hsame c)), (h c).2.2.2⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Equation.algebraic⟩

end Cert.Proof

end
